-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scales [hPre_finite_scales : Cert.Pre_finite_scales.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scales [hPre_finite_scales : Cert.Pre_finite_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_scales [hKernelIdeal : Cert.KernelIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_scales [hReferenceIdeal : Cert.ReferenceIdeal.Facts] [hPre_finite_scales : Cert.Pre_finite_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "score_factor" .f32 0x3E0293EE#32 (((Real.sqrt 128)⁻¹ * (Real.log 2)⁻¹ : ℝ) : EReal)

def algebraic_KernelIdeal_ReferenceIdeal_pre_finite_scales [hKernelIdeal : Cert.KernelIdeal.Facts] [hReferenceIdeal : Cert.ReferenceIdeal.Facts] [hPre_finite_scales : Cert.Pre_finite_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_scales : Cert.Pre_finite_scales.Facts),
    quiescent_Kernel (hKernel := hKernel)
    ∧ quiescent_KernelIdeal (hKernelIdeal := hKernelIdeal)
    ∧ quiescent_KernelIdeal_pre_finite_scales (hKernelIdeal := hKernelIdeal) (hPre_finite_scales := hPre_finite_scales)
    ∧ quiescent_ReferenceIdeal (hReferenceIdeal := hReferenceIdeal)
    ∧ quiescent_ReferenceIdeal_pre_finite_scales (hReferenceIdeal := hReferenceIdeal) (hPre_finite_scales := hPre_finite_scales)
    ∧ preserves_Kernel_KernelIdeal
    ∧ algebraic_KernelIdeal_ReferenceIdeal_pre_finite_scales (hKernelIdeal := hKernelIdeal) (hReferenceIdeal := hReferenceIdeal) (hPre_finite_scales := hPre_finite_scales)
-- ==== Pre_finite_scales.lean ====
abbrev S2x1024x28x128 : Shape := ⟨4, ![2, 1024, 28, 128]⟩
abbrev S2x32x28 : Shape := ⟨3, ![2, 32, 28]⟩
abbrev S2x8x28x128 : Shape := ⟨4, ![2, 8, 28, 128]⟩
abbrev S2x1024x4x128 : Shape := ⟨4, ![2, 1024, 4, 128]⟩
abbrev S2x32x4 : Shape := ⟨3, ![2, 32, 4]⟩
abbrev S2x4x128 : Shape := ⟨3, ![2, 4, 128]⟩
abbrev S_ : Shape := ⟨0, ![]⟩

class Facts : Prop where
  bcast_S_S2x32x28 : S_.BroadcastsInDim S2x32x28 (![] : Fin 0 → Fin S2x32x28.rank)
  bcast_S_S2x8x28x128 : S_.BroadcastsInDim S2x8x28x128 (![] : Fin 0 → Fin S2x8x28x128.rank)
  bcast_S_S2x32x4 : S_.BroadcastsInDim S2x32x4 (![] : Fin 0 → Fin S2x32x4.rank)

variable [Facts]

def fn {F : FTy → Type} [FloatOps F] (main_arg0 : IVec S2x1024x28x128 8) (main_arg1 : FVec F S2x32x28 .f32) (main_arg2 : FVec F S2x8x28x128 .bf16) (main_arg3 : IVec S2x1024x4x128 8) (main_arg4 : FVec F S2x32x4 .f32) (main_arg5 : FVec F S2x1024x4x128 .fp8e4m3) (main_arg6 : FVec F S2x4x128 .f32) : IVec S2x32x28 1 × IVec S2x8x28x128 1 × IVec S2x32x4 1 :=
  let main_v0 : FVec F S2x32x28 .f32 := Host.absf main_arg1
  let main_cst : FVec F S_ .f32 := constant S_ .f32 0x7F800000#32
  let main_v1 : FVec F S2x32x28 .f32 := broadcastInDim S2x32x28 ![] bcast_S_S2x32x28 main_cst
  let main_v2 : IVec S2x32x28 1 := cmpf .olt main_v0 main_v1
  let main_v3 : FVec F S2x8x28x128 .bf16 := Host.absf main_arg2
  let main_cst_0 : FVec F S_ .bf16 := constant S_ .bf16 0x7F80#16
  let main_v4 : FVec F S2x8x28x128 .bf16 := broadcastInDim S2x8x28x128 ![] bcast_S_S2x8x28x128 main_cst_0
  let main_v5 : IVec S2x8x28x128 1 := cmpf .olt main_v3 main_v4
  let main_v6 : FVec F S2x32x4 .f32 := Host.absf main_arg4
  let main_cst_1 : FVec F S_ .f32 := constant S_ .f32 0x7F800000#32
  let main_v7 : FVec F S2x32x4 .f32 := broadcastInDim S2x32x4 ![] bcast_S_S2x32x4 main_cst_1
  let main_v8 : IVec S2x32x4 1 := cmpf .olt main_v6 main_v7
  (main_v2, main_v5, main_v8)
-- ==== Kernel.lean ====
abbrev S2x1024x28x128 : Shape := ⟨4, ![2, 1024, 28, 128]⟩
abbrev S2x32x28 : Shape := ⟨3, ![2, 32, 28]⟩
abbrev S2x8x28x128 : Shape := ⟨4, ![2, 8, 28, 128]⟩
abbrev S2x1024x4x128 : Shape := ⟨4, ![2, 1024, 4, 128]⟩
abbrev S2x32x4 : Shape := ⟨3, ![2, 32, 4]⟩
abbrev S2x4x128 : Shape := ⟨3, ![2, 4, 128]⟩
abbrev S2x28x1024x128 : Shape := ⟨4, ![2, 28, 1024, 128]⟩
abbrev S2x28x8x128 : Shape := ⟨4, ![2, 28, 8, 128]⟩
abbrev S28x2x32 : Shape := ⟨3, ![28, 2, 32]⟩
abbrev S2x4x1024x128 : Shape := ⟨4, ![2, 4, 1024, 128]⟩
abbrev S2x4x32 : Shape := ⟨3, ![2, 4, 32]⟩
abbrev S2x4x1x32 : Shape := ⟨4, ![2, 4, 1, 32]⟩
abbrev S8x1x128 : Shape := ⟨3, ![8, 1, 128]⟩
abbrev S2x1024x3584 : Shape := ⟨3, ![2, 1024, 3584]⟩
abbrev S1x7x1024x128 : Shape := ⟨4, ![1, 7, 1024, 128]⟩
abbrev S1x7x8x128 : Shape := ⟨4, ![1, 7, 8, 128]⟩
abbrev S1x1x1024x128 : Shape := ⟨4, ![1, 1, 1024, 128]⟩
abbrev S1x1x1x32 : Shape := ⟨4, ![1, 1, 1, 32]⟩
abbrev S1x1x128 : Shape := ⟨3, ![1, 1, 128]⟩
abbrev S1x1024x896 : Shape := ⟨3, ![1, 1024, 896]⟩
abbrev S1024x128 : Shape := ⟨2, ![1024, 128]⟩
abbrev S32x128 : Shape := ⟨2, ![32, 128]⟩
abbrev S1x1024 : Shape := ⟨2, ![1, 1024]⟩
abbrev S7x32x128 : Shape := ⟨3, ![7, 32, 128]⟩
abbrev S7x8x1024 : Shape := ⟨3, ![7, 8, 1024]⟩
abbrev S128x1024 : Shape := ⟨2, ![128, 1024]⟩
abbrev S128x128 : Shape := ⟨2, ![128, 128]⟩
abbrev S1x32 : Shape := ⟨2, ![1, 32]⟩
abbrev S32x32 : Shape := ⟨2, ![32, 32]⟩
abbrev S32 : Shape := ⟨1, ![32]⟩
abbrev S32x1 : Shape := ⟨2, ![32, 1]⟩
abbrev S1x128 : Shape := ⟨2, ![1, 128]⟩
abbrev S1x1x32 : Shape := ⟨3, ![1, 1, 32]⟩
abbrev S1x32x128 : Shape := ⟨3, ![1, 32, 128]⟩
abbrev S1x1x8x128 : Shape := ⟨4, ![1, 1, 8, 128]⟩
abbrev S8x128 : Shape := ⟨2, ![8, 128]⟩
abbrev S8x1024 : Shape := ⟨2, ![8, 1024]⟩
abbrev S1x8x1024 : Shape := ⟨3, ![1, 8, 1024]⟩
abbrev S1x1x128x128 : Shape := ⟨4, ![1, 1, 128, 128]⟩
abbrev S128 : Shape := ⟨1, ![128]⟩
abbrev S128x1 : Shape := ⟨2, ![128, 1]⟩
abbrev S1x128x128 : Shape := ⟨3, ![1, 128, 128]⟩
abbrev S256x128 : Shape := ⟨2, ![256, 128]⟩
abbrev S128x256 : Shape := ⟨2, ![128, 256]⟩
abbrev S1x1x256x128 : Shape := ⟨4, ![1, 1, 256, 128]⟩
abbrev S128x384 : Shape := ⟨2, ![128, 384]⟩
abbrev S1x1x384x128 : Shape := ⟨4, ![1, 1, 384, 128]⟩
abbrev S384x128 : Shape := ⟨2, ![384, 128]⟩
abbrev S128x512 : Shape := ⟨2, ![128, 512]⟩
abbrev S1x1x512x128 : Shape := ⟨4, ![1, 1, 512, 128]⟩
abbrev S512x128 : Shape := ⟨2, ![512, 128]⟩
abbrev S128x640 : Shape := ⟨2, ![128, 640]⟩
abbrev S1x1x640x128 : Shape := ⟨4, ![1, 1, 640, 128]⟩
abbrev S640x128 : Shape := ⟨2, ![640, 128]⟩
abbrev S128x768 : Shape := ⟨2, ![128, 768]⟩
abbrev S1x1x768x128 : Shape := ⟨4, ![1, 1, 768, 128]⟩
abbrev S768x128 : Shape := ⟨2, ![768, 128]⟩
abbrev S128x896 : Shape := ⟨2, ![128, 896]⟩
abbrev S1x1x896x128 : Shape := ⟨4, ![1, 1, 896, 128]⟩
abbrev S896x128 : Shape := ⟨2, ![896, 128]⟩
abbrev S1 : Shape := ⟨1, ![1]⟩
abbrev S1x1x1 : Shape := ⟨3, ![1, 1, 1]⟩
abbrev S1x1 : Shape := ⟨2, ![1, 1]⟩
abbrev S1x1x1024 : Shape := ⟨3, ![1, 1, 1024]⟩

abbrev nBuf : Space → Nat
  | .hbm => 16
  | .vmem => 23
  | .smem => 0
  | _ => 0

abbrev bufTy : (tb : Table) → Fin (tcTables nBuf tb) → BufTy
  | .hbm, ⟨0, _⟩ => ⟨S2x1024x28x128, .i8⟩
  | .hbm, ⟨1, _⟩ => ⟨S2x32x28, .f32⟩
  | .hbm, ⟨2, _⟩ => ⟨S2x8x28x128, .bf16⟩
  | .hbm, ⟨3, _⟩ => ⟨S2x1024x4x128, .i8⟩
  | .hbm, ⟨4, _⟩ => ⟨S2x32x4, .f32⟩
  | .hbm, ⟨5, _⟩ => ⟨S2x1024x4x128, .fp8e4m3⟩
  | .hbm, ⟨6, _⟩ => ⟨S2x4x128, .f32⟩
  | .hbm, ⟨7, _⟩ => ⟨S2x28x1024x128, .i8⟩
  | .hbm, ⟨8, _⟩ => ⟨S2x28x8x128, .bf16⟩
  | .hbm, ⟨9, _⟩ => ⟨S28x2x32, .f32⟩
  | .hbm, ⟨10, _⟩ => ⟨S2x4x1024x128, .i8⟩
  | .hbm, ⟨11, _⟩ => ⟨S2x4x1024x128, .fp8e4m3⟩
  | .hbm, ⟨12, _⟩ => ⟨S2x4x32, .f32⟩
  | .hbm, ⟨13, _⟩ => ⟨S2x4x1x32, .f32⟩
  | .hbm, ⟨14, _⟩ => ⟨S8x1x128, .f32⟩
  | .hbm, ⟨15, _⟩ => ⟨S2x1024x3584, .bf16⟩
  | .local _ .vmem, ⟨0, _⟩ => ⟨S1x7x1024x128, .i8⟩
  | .local _ .vmem, ⟨1, _⟩ => ⟨S1x7x1024x128, .i8⟩
  | .local _ .vmem, ⟨2, _⟩ => ⟨S28x2x32, .f32⟩
  | .local _ .vmem, ⟨3, _⟩ => ⟨S1x7x8x128, .bf16⟩
  | .local _ .vmem, ⟨4, _⟩ => ⟨S1x7x8x128, .bf16⟩
  | .local _ .vmem, ⟨5, _⟩ => ⟨S1x1x1024x128, .i8⟩
  | .local _ .vmem, ⟨6, _⟩ => ⟨S1x1x1024x128, .i8⟩
  | .local _ .vmem, ⟨7, _⟩ => ⟨S1x1x1x32, .f32⟩
  | .local _ .vmem, ⟨8, _⟩ => ⟨S1x1x1x32, .f32⟩
  | .local _ .vmem, ⟨9, _⟩ => ⟨S1x1x1024x128, .fp8e4m3⟩
  | .local _ .vmem, ⟨10, _⟩ => ⟨S1x1x1024x128, .fp8e4m3⟩
  | .local _ .vmem, ⟨11, _⟩ => ⟨S1x1x128, .f32⟩
  | .local _ .vmem, ⟨12, _⟩ => ⟨S1x1x128, .f32⟩
  | .local _ .vmem, ⟨13, _⟩ => ⟨S1x1024x896, .bf16⟩
  | .local _ .vmem, ⟨14, _⟩ => ⟨S1x1024x896, .bf16⟩
  | .local _ .vmem, ⟨15, _⟩ => ⟨S1024x128, .bf16⟩
  | .local _ .vmem, ⟨16, _⟩ => ⟨S32x128, .f32⟩
  | .local _ .vmem, ⟨17, _⟩ => ⟨S1x1024, .f32⟩
  | .local _ .vmem, ⟨18, _⟩ => ⟨S7x32x128, .f32⟩
  | .local _ .vmem, ⟨19, _⟩ => ⟨S7x8x1024, .f32⟩
  | .local _ .vmem, ⟨20, _⟩ => ⟨S128x1024, .f32⟩
  | .local _ .vmem, ⟨21, _⟩ => ⟨S128x1024, .f32⟩
  | .local _ .vmem, ⟨22, _⟩ => ⟨S128x128, .f32⟩
  | _, _ => ⟨S2x1024x28x128, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 4], ![false, false]⟩

def k0_off1 (i : grid0.Coords) (c0_i32 : BitVec 32) : Fin 3 → Nat :=
  let arg1 : BitVec 32 := BitVec.ofNat 32 (i 1).val
  let c7_i32 : BitVec 32 := 7#32
  let v153 : BitVec 32 := Scalar.muli arg1 c7_i32
  let v154 : BitVec 32 := Scalar.addi v153 c0_i32
  let v155 : Index := Scalar.indexCast v154
  let arg0 : BitVec 32 := BitVec.ofNat 32 (i 0).val
  let v156 : Index := Scalar.indexCast arg0
  let c0_76 : Index := 0#32
  ![v155.toNat, v156.toNat, 0]
@[reducible] def k0_t1_loop : Scf.Loop 32 :=
  let c0_i32_8096 : BitVec 32 := 0#32
  let c56_i32 : BitVec 32 := 56#32
  let v13550 : BitVec 32 := Scalar.addi c0_i32_8096 c56_i32
  let c1_i32_8097 : BitVec 32 := 1#32
  ⟨c0_i32_8096, v13550, c1_i32_8097⟩
def k0_mult1 (k0_t1 : Fin k0_t1_loop.trips) : BitVec 32 :=
  let c0_i32_8096 : BitVec 32 := 0#32
  let c1_i32_8097 : BitVec 32 := 1#32
  let arg18 : BitVec 32 := Scf.iv c0_i32_8096 c1_i32_8097 k0_t1
  let c0_i32_8100 : BitVec 32 := 0#32
  let v13552 : BitVec 1 := Scalar.cmpi .sgt arg18 c0_i32_8100
  let v13553 : BitVec 32 := Scalar.extui v13552
  let c0_i32_8101 : BitVec 32 := 0#32
  let v13554 : BitVec 1 := Scalar.cmpi .slt arg18 c0_i32_8101
  let v13555 : BitVec 32 := Scalar.extui v13554
  let v13556 : BitVec 32 := Scalar.subi v13553 v13555
  let c7_i32_8099 : BitVec 32 := 7#32
  let c0_i32_8102 : BitVec 32 := 0#32
  let v13557 : BitVec 1 := Scalar.cmpi .sgt c7_i32_8099 c0_i32_8102
  let v13558 : BitVec 32 := Scalar.extui v13557
  let c0_i32_8103 : BitVec 32 := 0#32
  let v13559 : BitVec 1 := Scalar.cmpi .slt c7_i32_8099 c0_i32_8103
  let v13560 : BitVec 32 := Scalar.extui v13559
  let v13561 : BitVec 32 := Scalar.subi v13558 v13560
  let v13562 : BitVec 1 := Scalar.cmpi .ne v13556 v13561
  let v13563 : BitVec 32 := Scalar.remsi arg18 c7_i32_8099
  let c0_i32_8104 : BitVec 32 := 0#32
  let v13564 : BitVec 1 := Scalar.cmpi .ne v13563 c0_i32_8104
  let v13565 : BitVec 1 := Scalar.andi v13562 v13564
  let v13551 : BitVec 32 := Scalar.divsi arg18 c7_i32_8099
  let c1_i32_8105 : BitVec 32 := 1#32
  let v13566 : BitVec 32 := Scalar.subi v13551 c1_i32_8105
  let v13567 : BitVec 32 := Scalar.select v13565 v13566 v13551
  let c128_i32 : BitVec 32 := 128#32
  let v13570 : BitVec 32 := Scalar.muli v13567 c128_i32
  v13570
def k0_off2 (k0_t1 : Fin k0_t1_loop.trips) : Fin 4 → Nat :=
  let c0_8107 : Index := 0#32
  let c0_i32_8096 : BitVec 32 := 0#32
  let c1_i32_8097 : BitVec 32 := 1#32
  let arg18 : BitVec 32 := Scf.iv c0_i32_8096 c1_i32_8097 k0_t1
  let c0_i32_8100 : BitVec 32 := 0#32
  let v13552 : BitVec 1 := Scalar.cmpi .sgt arg18 c0_i32_8100
  let v13553 : BitVec 32 := Scalar.extui v13552
  let c0_i32_8101 : BitVec 32 := 0#32
  let v13554 : BitVec 1 := Scalar.cmpi .slt arg18 c0_i32_8101
  let v13555 : BitVec 32 := Scalar.extui v13554
  let v13556 : BitVec 32 := Scalar.subi v13553 v13555
  let c7_i32_8099 : BitVec 32 := 7#32
  let c0_i32_8102 : BitVec 32 := 0#32
  let v13557 : BitVec 1 := Scalar.cmpi .sgt c7_i32_8099 c0_i32_8102
  let v13558 : BitVec 32 := Scalar.extui v13557
  let c0_i32_8103 : BitVec 32 := 0#32
  let v13559 : BitVec 1 := Scalar.cmpi .slt c7_i32_8099 c0_i32_8103
  let v13560 : BitVec 32 := Scalar.extui v13559
  let v13561 : BitVec 32 := Scalar.subi v13558 v13560
  let v13562 : BitVec 1 := Scalar.cmpi .ne v13556 v13561
  let v13563 : BitVec 32 := Scalar.remsi arg18 c7_i32_8099
  let c0_i32_8104 : BitVec 32 := 0#32
  let v13564 : BitVec 1 := Scalar.cmpi .ne v13563 c0_i32_8104
  let v13565 : BitVec 1 := Scalar.andi v13562 v13564
  let v13551 : BitVec 32 := Scalar.divsi arg18 c7_i32_8099
  let c1_i32_8105 : BitVec 32 := 1#32
  let v13566 : BitVec 32 := Scalar.subi v13551 c1_i32_8105
  let v13567 : BitVec 32 := Scalar.select v13565 v13566 v13551
  let c7_i32_8106 : BitVec 32 := 7#32
  let v13568 : BitVec 32 := Scalar.muli v13567 c7_i32_8106
  let v13569 : BitVec 32 := Scalar.subi arg18 v13568
  let v13572 : Index := Scalar.indexCast v13569
  let c128_i32 : BitVec 32 := 128#32
  let v13570 : BitVec 32 := Scalar.muli v13567 c128_i32
  let v13571 : BitVec 32 := v13570
  let v13573 : Index := Scalar.indexCast v13571
  let c0_8108 : Index := 0#32
  ![0, v13572.toNat, v13573.toNat, 0]
def k0_off3 (k0_t1 : Fin k0_t1_loop.trips) (c0_i32_8110 : BitVec 32) : Fin 3 → Nat :=
  let c0_i32_8096 : BitVec 32 := 0#32
  let c1_i32_8097 : BitVec 32 := 1#32
  let arg18 : BitVec 32 := Scf.iv c0_i32_8096 c1_i32_8097 k0_t1
  let c0_i32_8100 : BitVec 32 := 0#32
  let v13552 : BitVec 1 := Scalar.cmpi .sgt arg18 c0_i32_8100
  let v13553 : BitVec 32 := Scalar.extui v13552
  let c0_i32_8101 : BitVec 32 := 0#32
  let v13554 : BitVec 1 := Scalar.cmpi .slt arg18 c0_i32_8101
  let v13555 : BitVec 32 := Scalar.extui v13554
  let v13556 : BitVec 32 := Scalar.subi v13553 v13555
  let c7_i32_8099 : BitVec 32 := 7#32
  let c0_i32_8102 : BitVec 32 := 0#32
  let v13557 : BitVec 1 := Scalar.cmpi .sgt c7_i32_8099 c0_i32_8102
  let v13558 : BitVec 32 := Scalar.extui v13557
  let c0_i32_8103 : BitVec 32 := 0#32
  let v13559 : BitVec 1 := Scalar.cmpi .slt c7_i32_8099 c0_i32_8103
  let v13560 : BitVec 32 := Scalar.extui v13559
  let v13561 : BitVec 32 := Scalar.subi v13558 v13560
  let v13562 : BitVec 1 := Scalar.cmpi .ne v13556 v13561
  let v13563 : BitVec 32 := Scalar.remsi arg18 c7_i32_8099
  let c0_i32_8104 : BitVec 32 := 0#32
  let v13564 : BitVec 1 := Scalar.cmpi .ne v13563 c0_i32_8104
  let v13565 : BitVec 1 := Scalar.andi v13562 v13564
  let v13551 : BitVec 32 := Scalar.divsi arg18 c7_i32_8099
  let c1_i32_8105 : BitVec 32 := 1#32
  let v13566 : BitVec 32 := Scalar.subi v13551 c1_i32_8105
  let v13567 : BitVec 32 := Scalar.select v13565 v13566 v13551
  let c7_i32_8106 : BitVec 32 := 7#32
  let v13568 : BitVec 32 := Scalar.muli v13567 c7_i32_8106
  let v13569 : BitVec 32 := Scalar.subi arg18 v13568
  let v13579 : Index := Scalar.indexCast v13569
  let c4_i32_8109 : BitVec 32 := 4#32
  let v13577 : BitVec 32 := Scalar.muli c4_i32_8109 v13567
  let v13578 : BitVec 32 := Scalar.addi v13577 c0_i32_8110
  let v13580 : Index := Scalar.indexCast v13578
  let c0_8111 : Index := 0#32
  ![v13579.toNat, v13580.toNat, 0]
def k0_off4 (k0_t1 : Fin k0_t1_loop.trips) : Fin 3 → Nat :=
  let c0_i32_8096 : BitVec 32 := 0#32
  let c1_i32_8097 : BitVec 32 := 1#32
  let arg18 : BitVec 32 := Scf.iv c0_i32_8096 c1_i32_8097 k0_t1
  let c0_i32_8100 : BitVec 32 := 0#32
  let v13552 : BitVec 1 := Scalar.cmpi .sgt arg18 c0_i32_8100
  let v13553 : BitVec 32 := Scalar.extui v13552
  let c0_i32_8101 : BitVec 32 := 0#32
  let v13554 : BitVec 1 := Scalar.cmpi .slt arg18 c0_i32_8101
  let v13555 : BitVec 32 := Scalar.extui v13554
  let v13556 : BitVec 32 := Scalar.subi v13553 v13555
  let c7_i32_8099 : BitVec 32 := 7#32
  let c0_i32_8102 : BitVec 32 := 0#32
  let v13557 : BitVec 1 := Scalar.cmpi .sgt c7_i32_8099 c0_i32_8102
  let v13558 : BitVec 32 := Scalar.extui v13557
  let c0_i32_8103 : BitVec 32 := 0#32
  let v13559 : BitVec 1 := Scalar.cmpi .slt c7_i32_8099 c0_i32_8103
  let v13560 : BitVec 32 := Scalar.extui v13559
  let v13561 : BitVec 32 := Scalar.subi v13558 v13560
  let v13562 : BitVec 1 := Scalar.cmpi .ne v13556 v13561
  let v13563 : BitVec 32 := Scalar.remsi arg18 c7_i32_8099
  let c0_i32_8104 : BitVec 32 := 0#32
  let v13564 : BitVec 1 := Scalar.cmpi .ne v13563 c0_i32_8104
  let v13565 : BitVec 1 := Scalar.andi v13562 v13564
  let v13551 : BitVec 32 := Scalar.divsi arg18 c7_i32_8099
  let c1_i32_8105 : BitVec 32 := 1#32
  let v13566 : BitVec 32 := Scalar.subi v13551 c1_i32_8105
  let v13567 : BitVec 32 := Scalar.select v13565 v13566 v13551
  let c7_i32_8106 : BitVec 32 := 7#32
  let v13568 : BitVec 32 := Scalar.muli v13567 c7_i32_8106
  let v13569 : BitVec 32 := Scalar.subi arg18 v13568
  let v13617 : Index := Scalar.indexCast v13569
  let v13618 : Index := Scalar.indexCast v13567
  let c0_8126 : Index := 0#32
  ![v13617.toNat, v13618.toNat, 0]
def k0_mult2 (k0_t1 : Fin k0_t1_loop.trips) : BitVec 32 :=
  let c0_i32_8096 : BitVec 32 := 0#32
  let c1_i32_8097 : BitVec 32 := 1#32
  let arg18 : BitVec 32 := Scf.iv c0_i32_8096 c1_i32_8097 k0_t1
  let c0_i32_8100 : BitVec 32 := 0#32
  let v13552 : BitVec 1 := Scalar.cmpi .sgt arg18 c0_i32_8100
  let v13553 : BitVec 32 := Scalar.extui v13552
  let c0_i32_8101 : BitVec 32 := 0#32
  let v13554 : BitVec 1 := Scalar.cmpi .slt arg18 c0_i32_8101
  let v13555 : BitVec 32 := Scalar.extui v13554
  let v13556 : BitVec 32 := Scalar.subi v13553 v13555
  let c7_i32_8099 : BitVec 32 := 7#32
  let c0_i32_8102 : BitVec 32 := 0#32
  let v13557 : BitVec 1 := Scalar.cmpi .sgt c7_i32_8099 c0_i32_8102
  let v13558 : BitVec 32 := Scalar.extui v13557
  let c0_i32_8103 : BitVec 32 := 0#32
  let v13559 : BitVec 1 := Scalar.cmpi .slt c7_i32_8099 c0_i32_8103
  let v13560 : BitVec 32 := Scalar.extui v13559
  let v13561 : BitVec 32 := Scalar.subi v13558 v13560
  let v13562 : BitVec 1 := Scalar.cmpi .ne v13556 v13561
  let v13563 : BitVec 32 := Scalar.remsi arg18 c7_i32_8099
  let c0_i32_8104 : BitVec 32 := 0#32
  let v13564 : BitVec 1 := Scalar.cmpi .ne v13563 c0_i32_8104
  let v13565 : BitVec 1 := Scalar.andi v13562 v13564
  let v13551 : BitVec 32 := Scalar.divsi arg18 c7_i32_8099
  let c1_i32_8105 : BitVec 32 := 1#32
  let v13566 : BitVec 32 := Scalar.subi v13551 c1_i32_8105
  let v13567 : BitVec 32 := Scalar.select v13565 v13566 v13551
  let c7_i32_8106 : BitVec 32 := 7#32
  let v13568 : BitVec 32 := Scalar.muli v13567 c7_i32_8106
  let v13569 : BitVec 32 := Scalar.subi arg18 v13568
  let c128_i32_8139 : BitVec 32 := 128#32
  let v13653 : BitVec 32 := Scalar.muli v13569 c128_i32_8139
  v13653
def k0_off5 (k0_t1 : Fin k0_t1_loop.trips) : Fin 3 → Nat :=
  let c0_8140 : Index := 0#32
  let c0_i32_8096 : BitVec 32 := 0#32
  let c1_i32_8097 : BitVec 32 := 1#32
  let arg18 : BitVec 32 := Scf.iv c0_i32_8096 c1_i32_8097 k0_t1
  let c0_i32_8100 : BitVec 32 := 0#32
  let v13552 : BitVec 1 := Scalar.cmpi .sgt arg18 c0_i32_8100
  let v13553 : BitVec 32 := Scalar.extui v13552
  let c0_i32_8101 : BitVec 32 := 0#32
  let v13554 : BitVec 1 := Scalar.cmpi .slt arg18 c0_i32_8101
  let v13555 : BitVec 32 := Scalar.extui v13554
  let v13556 : BitVec 32 := Scalar.subi v13553 v13555
  let c7_i32_8099 : BitVec 32 := 7#32
  let c0_i32_8102 : BitVec 32 := 0#32
  let v13557 : BitVec 1 := Scalar.cmpi .sgt c7_i32_8099 c0_i32_8102
  let v13558 : BitVec 32 := Scalar.extui v13557
  let c0_i32_8103 : BitVec 32 := 0#32
  let v13559 : BitVec 1 := Scalar.cmpi .slt c7_i32_8099 c0_i32_8103
  let v13560 : BitVec 32 := Scalar.extui v13559
  let v13561 : BitVec 32 := Scalar.subi v13558 v13560
  let v13562 : BitVec 1 := Scalar.cmpi .ne v13556 v13561
  let v13563 : BitVec 32 := Scalar.remsi arg18 c7_i32_8099
  let c0_i32_8104 : BitVec 32 := 0#32
  let v13564 : BitVec 1 := Scalar.cmpi .ne v13563 c0_i32_8104
  let v13565 : BitVec 1 := Scalar.andi v13562 v13564
  let v13551 : BitVec 32 := Scalar.divsi arg18 c7_i32_8099
  let c1_i32_8105 : BitVec 32 := 1#32
  let v13566 : BitVec 32 := Scalar.subi v13551 c1_i32_8105
  let v13567 : BitVec 32 := Scalar.select v13565 v13566 v13551
  let c128_i32 : BitVec 32 := 128#32
  let v13570 : BitVec 32 := Scalar.muli v13567 c128_i32
  let v13571 : BitVec 32 := v13570
  let v13655 : Index := Scalar.indexCast v13571
  let c7_i32_8106 : BitVec 32 := 7#32
  let v13568 : BitVec 32 := Scalar.muli v13567 c7_i32_8106
  let v13569 : BitVec 32 := Scalar.subi arg18 v13568
  let c128_i32_8139 : BitVec 32 := 128#32
  let v13653 : BitVec 32 := Scalar.muli v13569 c128_i32_8139
  let v13654 : BitVec 32 := v13653
  let v13656 : Index := Scalar.indexCast v13654
  ![0, v13655.toNat, v13656.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x7x1024x128 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S28x2x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x7x8x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x896 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "score_factor" => some (((Real.sqrt 128)⁻¹ * (Real.log 2)⁻¹ : ℝ) : EReal)
  | _ => none
-- ==== ReferenceIdeal.lean ====
abbrev S2x1024x28x128 : Shape := ⟨4, ![2, 1024, 28, 128]⟩
abbrev S2x32x28 : Shape := ⟨3, ![2, 32, 28]⟩
abbrev S2x8x28x128 : Shape := ⟨4, ![2, 8, 28, 128]⟩
abbrev S2x1024x4x128 : Shape := ⟨4, ![2, 1024, 4, 128]⟩
abbrev S2x32x4 : Shape := ⟨3, ![2, 32, 4]⟩
abbrev S2x4x128 : Shape := ⟨3, ![2, 4, 128]⟩
abbrev S2x28x1024x128 : Shape := ⟨4, ![2, 28, 1024, 128]⟩
abbrev S56x1024x128 : Shape := ⟨3, ![56, 1024, 128]⟩
abbrev S2x32x32x28 : Shape := ⟨4, ![2, 32, 32, 28]⟩
abbrev S2x1024x28 : Shape := ⟨3, ![2, 1024, 28]⟩
abbrev S2x28x1024 : Shape := ⟨3, ![2, 28, 1024]⟩
abbrev S56x1024x1 : Shape := ⟨3, ![56, 1024, 1]⟩
abbrev S2x8x128x28x128 : Shape := ⟨5, ![2, 8, 128, 28, 128]⟩
abbrev S2x1024x4x7x128 : Shape := ⟨5, ![2, 1024, 4, 7, 128]⟩
abbrev S2x32x4x7 : Shape := ⟨4, ![2, 32, 4, 7]⟩
abbrev S56x1x1024 : Shape := ⟨3, ![56, 1, 1024]⟩
abbrev S2x4x7x128 : Shape := ⟨4, ![2, 4, 7, 128]⟩
abbrev S2x28x128 : Shape := ⟨3, ![2, 28, 128]⟩
abbrev S56x1x128 : Shape := ⟨3, ![56, 1, 128]⟩
abbrev S2x1024x3584 : Shape := ⟨3, ![2, 1024, 3584]⟩
abbrev S56x1024x1024 : Shape := ⟨3, ![56, 1024, 1024]⟩
abbrev S56x1024 : Shape := ⟨2, ![56, 1024]⟩

abbrev nBuf : Space → Nat
  | .hbm => 35
  | .vmem => 8
  | .smem => 0
  | _ => 0

abbrev bufTy : (tb : Table) → Fin (tcTables nBuf tb) → BufTy
  | .hbm, ⟨0, _⟩ => ⟨S2x1024x28x128, .i8⟩
  | .hbm, ⟨1, _⟩ => ⟨S2x32x28, .f32⟩
  | .hbm, ⟨2, _⟩ => ⟨S2x8x28x128, .bf16⟩
  | .hbm, ⟨3, _⟩ => ⟨S2x1024x4x128, .i8⟩
  | .hbm, ⟨4, _⟩ => ⟨S2x32x4, .f32⟩
  | .hbm, ⟨5, _⟩ => ⟨S2x1024x4x128, .fp8e4m3⟩
  | .hbm, ⟨6, _⟩ => ⟨S2x4x128, .f32⟩
  | .hbm, ⟨7, _⟩ => ⟨S2x28x1024x128, .i8⟩
  | .hbm, ⟨8, _⟩ => ⟨S56x1024x128, .i8⟩
  | .hbm, ⟨9, _⟩ => ⟨S2x32x32x28, .f32⟩
  | .hbm, ⟨10, _⟩ => ⟨S2x1024x28, .f32⟩
  | .hbm, ⟨11, _⟩ => ⟨S2x28x1024, .f32⟩
  | .hbm, ⟨12, _⟩ => ⟨S56x1024x1, .f32⟩
  | .hbm, ⟨13, _⟩ => ⟨S2x8x128x28x128, .bf16⟩
  | .hbm, ⟨14, _⟩ => ⟨S2x1024x28x128, .bf16⟩
  | .hbm, ⟨15, _⟩ => ⟨S2x28x1024x128, .bf16⟩
  | .hbm, ⟨16, _⟩ => ⟨S56x1024x128, .bf16⟩
  | .hbm, ⟨17, _⟩ => ⟨S2x1024x4x7x128, .i8⟩
  | .hbm, ⟨18, _⟩ => ⟨S2x1024x28x128, .i8⟩
  | .hbm, ⟨19, _⟩ => ⟨S2x28x1024x128, .i8⟩
  | .hbm, ⟨20, _⟩ => ⟨S56x1024x128, .i8⟩
  | .hbm, ⟨21, _⟩ => ⟨S2x32x4x7, .f32⟩
  | .hbm, ⟨22, _⟩ => ⟨S2x32x28, .f32⟩
  | .hbm, ⟨23, _⟩ => ⟨S2x32x32x28, .f32⟩
  | .hbm, ⟨24, _⟩ => ⟨S2x1024x28, .f32⟩
  | .hbm, ⟨25, _⟩ => ⟨S2x28x1024, .f32⟩
  | .hbm, ⟨26, _⟩ => ⟨S56x1x1024, .f32⟩
  | .hbm, ⟨27, _⟩ => ⟨S2x1024x4x7x128, .fp8e4m3⟩
  | .hbm, ⟨28, _⟩ => ⟨S2x1024x28x128, .fp8e4m3⟩
  | .hbm, ⟨29, _⟩ => ⟨S2x28x1024x128, .fp8e4m3⟩
  | .hbm, ⟨30, _⟩ => ⟨S56x1024x128, .fp8e4m3⟩
  | .hbm, ⟨31, _⟩ => ⟨S2x4x7x128, .f32⟩
  | .hbm, ⟨32, _⟩ => ⟨S2x28x128, .f32⟩
  | .hbm, ⟨33, _⟩ => ⟨S56x1x128, .f32⟩
  | .hbm, ⟨34, _⟩ => ⟨S2x1024x3584, .bf16⟩
  | .local _ .vmem, ⟨0, _⟩ => ⟨S56x1024x128, .i8⟩
  | .local _ .vmem, ⟨1, _⟩ => ⟨S56x1024x1, .f32⟩
  | .local _ .vmem, ⟨2, _⟩ => ⟨S56x1024x128, .bf16⟩
  | .local _ .vmem, ⟨3, _⟩ => ⟨S56x1024x128, .i8⟩
  | .local _ .vmem, ⟨4, _⟩ => ⟨S56x1x1024, .f32⟩
  | .local _ .vmem, ⟨5, _⟩ => ⟨S56x1024x128, .fp8e4m3⟩
  | .local _ .vmem, ⟨6, _⟩ => ⟨S56x1x128, .f32⟩
  | .local _ .vmem, ⟨7, _⟩ => ⟨S2x1024x3584, .bf16⟩
  | _, _ => ⟨S2x1024x28x128, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "score_scale" => some (((Real.sqrt 128)⁻¹ : ℝ) : EReal)
  | _ => none

abbrev grid0 : Pipeline.Grid := .none

abbrev stage0_0 : Fin 1 → Memref sig .tc .vmem S56x1024x128 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S56x1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S56x1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S56x1024x128 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S56x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S56x1024x128 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S56x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024x3584 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.GuardK.lean ====
/- The guarded loop of `Kernel`: when the guard's word is one, the loop over all blocks writes its pieces over the output;
   when it is not, nothing happens. -/
module

public import proofs.«01_k».proof.Proof.Gen.Kernel
public import proofs.«01_k».proof.Proof.Gen.Kernel.Loops
public import Idealize.ShloMosaic.Lib.Tactic
public import Idealize.ShloMosaic.Lib.Pipeline.Kit

@[expose] public section

set_option maxRecDepth 16384

noncomputable section

namespace Cert.Proof.Kernel

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- A whole memref's buffer held whole is held at its view's cells, -/
theorem pt_cells (c : Dev nD) {sp : Space} {S : Shape} {e : EltTy} (M : Memref sig .tc sp S e) (h : M.IsWhole) (f : Bf (F := F) c M) :
    (pt c M f : sProp 𝕄) ⊢ M.view.loc (c : Thread nD τ) ↦[M.view.set]{fullShare} f := by
  unfold pt
  rw [h.set_eq_univ]

/-- and conversely. -/
theorem cells_pt (c : Dev nD) {sp : Space} {S : Shape} {e : EltTy} (M : Memref sig .tc sp S e) (h : M.IsWhole) (f : Bf (F := F) c M) :
    (M.view.loc (c : Thread nD τ) ↦[M.view.set]{fullShare} f : sProp 𝕄) ⊢ pt c M f := by
  unfold pt
  rw [h.set_eq_univ]

/-- The output's contents after the guarded loop, from those before it (`f9`): with the loop's pieces written over
    them when the guard's word `b` is one. -/
def guarded (c : Dev nD) (i : grid0.Coords)
    (M2 : Memref sig .tc .vmem S1x7x1024x128 .i8) (h2 : M2.IsWhole)
    (M3 : Memref sig .tc .vmem S28x2x32 .f32) (h3 : M3.IsWhole)
    (M4 : Memref sig .tc .vmem S1x7x8x128 .bf16) (h4 : M4.IsWhole)
    (M5 : Memref sig .tc .vmem S1x1x1024x128 .i8) (h5 : M5.IsWhole)
    (M6 : Memref sig .tc .vmem S1x1x1x32 .f32) (h6 : M6.IsWhole)
    (M7 : Memref sig .tc .vmem S1x1x1024x128 .fp8e4m3) (h7 : M7.IsWhole)
    (M8 : Memref sig .tc .vmem S1x1x128 .f32) (h8 : M8.IsWhole)
    (M9 : Memref sig .tc .vmem S1x1024x896 .bf16) (h9 : M9.IsWhole)
    (M10 : Memref sig .tc .vmem S1024x128 .bf16) (h10 : M10.IsWhole)
    (M11 : Memref sig .tc .vmem S32x128 .f32) (h11 : M11.IsWhole)
    (M12 : Memref sig .tc .vmem S1x1024 .f32) (h12 : M12.IsWhole)
    (M13 : Memref sig .tc .vmem S7x32x128 .f32) (h13 : M13.IsWhole)
    (M14 : Memref sig .tc .vmem S7x8x1024 .f32) (h14 : M14.IsWhole)
    (M15 : Memref sig .tc .vmem S128x1024 .f32) (h15 : M15.IsWhole)
    (M16 : Memref sig .tc .vmem S128x1024 .f32) (h16 : M16.IsWhole)
    (M17 : Memref sig .tc .vmem S128x128 .f32) (h17 : M17.IsWhole)
    (v369 : FVec F S1x128 .f32) (b : BitVec 1) (f2 : Bf (F := F) c M2) (f7 : Bf (F := F) c M7) (f10 : Bf (F := F) c M10) (f12 : Bf (F := F) c M12) (f13 : Bf (F := F) c M13) (f14 : Bf (F := F) c M14) (f9 : Bf (F := F) c M9) : Bf (F := F) c M9 :=
  if b = 1#1 then M9.view.writes (Elt F) f9 (pb_k0_t1 (F := F) Variants.none c none i M2 h2 M3 h3 M4 h4 M5 h5 M6 h6 M7 h7 M8 h8 M9 h9 M10 h10 M11 h11 M12 h12 M13 h13 M14 h14 M15 h15 M16 h16 M17 h17 v369 f2 f7 f10 f12 f13 f14 k0_t1_loop.trips) else f9

/-- The guarded loop's run. -/
theorem guard_run (c : Dev nD) (i : grid0.Coords)
    (M2 : Memref sig .tc .vmem S1x7x1024x128 .i8) (h2 : M2.IsWhole)
    (M3 : Memref sig .tc .vmem S28x2x32 .f32) (h3 : M3.IsWhole)
    (M4 : Memref sig .tc .vmem S1x7x8x128 .bf16) (h4 : M4.IsWhole)
    (M5 : Memref sig .tc .vmem S1x1x1024x128 .i8) (h5 : M5.IsWhole)
    (M6 : Memref sig .tc .vmem S1x1x1x32 .f32) (h6 : M6.IsWhole)
    (M7 : Memref sig .tc .vmem S1x1x1024x128 .fp8e4m3) (h7 : M7.IsWhole)
    (M8 : Memref sig .tc .vmem S1x1x128 .f32) (h8 : M8.IsWhole)
    (M9 : Memref sig .tc .vmem S1x1024x896 .bf16) (h9 : M9.IsWhole)
    (M10 : Memref sig .tc .vmem S1024x128 .bf16) (h10 : M10.IsWhole)
    (M11 : Memref sig .tc .vmem S32x128 .f32) (h11 : M11.IsWhole)
    (M12 : Memref sig .tc .vmem S1x1024 .f32) (h12 : M12.IsWhole)
    (M13 : Memref sig .tc .vmem S7x32x128 .f32) (h13 : M13.IsWhole)
    (M14 : Memref sig .tc .vmem S7x8x1024 .f32) (h14 : M14.IsWhole)
    (M15 : Memref sig .tc .vmem S128x1024 .f32) (h15 : M15.IsWhole)
    (M16 : Memref sig .tc .vmem S128x1024 .f32) (h16 : M16.IsWhole)
    (M17 : Memref sig .tc .vmem S128x128 .f32) (h17 : M17.IsWhole)
    (v369 : FVec F S1x128 .f32) (b : BitVec 1) (f2 : Bf (F := F) c M2) (f7 : Bf (F := F) c M7) (f10 : Bf (F := F) c M10) (f12 : Bf (F := F) c M12) (f13 : Bf (F := F) c M13) (f14 : Bf (F := F) c M14) (f9 : Bf (F := F) c M9) (E : Set ℕ) (Q : PUnit → sProp 𝕄) :
    iprop(pt c M2 f2 ∗ pt c M7 f7 ∗ pt c M10 f10 ∗ pt c M12 f12 ∗ pt c M13 f13 ∗ pt c M14 f14 ∗ pt c M9 f9
      ∗ (iprop(pt c M2 f2 ∗ pt c M7 f7 ∗ pt c M10 f10 ∗ pt c M12 f12 ∗ pt c M13 f13 ∗ pt c M14 f14 ∗ pt c M9 (guarded c i M2 h2 M3 h3 M4 h4 M5 h5 M6 h6 M7 h7 M8 h8 M9 h9 M10 h10 M11 h11 M12 h12 M13 h13 M14 h14 M15 h15 M16 h16 M17 h17 v369 b f2 f7 f10 f12 f13 f14 f9)) -∗ Q ⟨⟩))
    ⊢ wp frame (wpE (defs₀ (F := F)) Variants.none c none) E
        (if b = 1#1 then (do
            Scf.Loop.for k0_t1_loop k0_t1_ok ⟨⟩ (k0_t1_body i M2 h2 M3 h3 M4 h4 M5 h5 M6 h6 M7 h7 M8 h8 M9 h9 M10 h10 M11 h11 M12 h12 M13 h13 M14 h14 M15 h15 M16 h16 M17 h17 v369)
            (fun _ => pure ⟨⟩ : PUnit.{1} → Prog (TpuEff nD τ sig (Elt F) Λ₀ .tc) PUnit) ⟨⟩)
          else (fun _ => pure ⟨⟩ : PUnit.{1} → Prog (TpuEff nD τ sig (Elt F) Λ₀ .tc) PUnit) ⟨⟩) Q := by
  iintro ⟨H2, H7, H10, H12, H13, H14, H9, Hk⟩
  unfold guarded
  by_cases hc : b = 1#1
  · rw [if_pos hc, if_pos hc]
    ihave C2 := (pt_cells (F := F) c M2 h2 _) $$ [H2]; · iexact H2
    ihave C7 := (pt_cells (F := F) c M7 h7 _) $$ [H7]; · iexact H7
    ihave C10 := (pt_cells (F := F) c M10 h10 _) $$ [H10]; · iexact H10
    ihave C12 := (pt_cells (F := F) c M12 h12 _) $$ [H12]; · iexact H12
    ihave C13 := (pt_cells (F := F) c M13 h13 _) $$ [H13]; · iexact H13
    ihave C14 := (pt_cells (F := F) c M14 h14 _) $$ [H14]; · iexact H14
    ihave C9 := (pt_cells (F := F) c M9 h9 _) $$ [H9]; · iexact H9
    sl_exec
    sl_step
    iapply Hk
    isplitl [C2]; · iapply (cells_pt (F := F) c M2 h2 _); iexact C2
    isplitl [C7]; · iapply (cells_pt (F := F) c M7 h7 _); iexact C7
    isplitl [C10]; · iapply (cells_pt (F := F) c M10 h10 _); iexact C10
    isplitl [C12]; · iapply (cells_pt (F := F) c M12 h12 _); iexact C12
    isplitl [C13]; · iapply (cells_pt (F := F) c M13 h13 _); iexact C13
    isplitl [C14]; · iapply (cells_pt (F := F) c M14 h14 _); iexact C14
    iapply (cells_pt (F := F) c M9 h9 _); iexact C9
  · rw [if_neg hc, if_neg hc]
    sl_step
    iapply Hk
    isplitl [H2]; · iexact H2
    isplitl [H7]; · iexact H7
    isplitl [H10]; · iexact H10
    isplitl [H12]; · iexact H12
    isplitl [H13]; · iexact H13
    isplitl [H14]; · iexact H14
    iexact H9

end Cert.Proof.Kernel

end
-- ==== Proof.BodyK.lean ====
module

public import proofs.«01_k».proof.Proof.GuardK
public import Idealize.ShloMosaic.Lib.Tactic
public import Idealize.ShloMosaic.Lib.Pipeline.Kit

@[expose] public section

noncomputable section

namespace Cert.Proof.Kernel

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents the body leaves in the output's staging buffer, with the proof that the body, run from its sixteen
    buffers held whole, gives back the seven inputs' as they were, the output's at those contents, and the eight scratch
    buffers at something. -/
noncomputable def kernelRun (c : Dev nD) (i : grid0.Coords)
    (M2 : Memref sig .tc .vmem S1x7x1024x128 .i8) (h2 : M2.IsWhole)
    (M3 : Memref sig .tc .vmem S28x2x32 .f32) (h3 : M3.IsWhole)
    (M4 : Memref sig .tc .vmem S1x7x8x128 .bf16) (h4 : M4.IsWhole)
    (M5 : Memref sig .tc .vmem S1x1x1024x128 .i8) (h5 : M5.IsWhole)
    (M6 : Memref sig .tc .vmem S1x1x1x32 .f32) (h6 : M6.IsWhole)
    (M7 : Memref sig .tc .vmem S1x1x1024x128 .fp8e4m3) (h7 : M7.IsWhole)
    (M8 : Memref sig .tc .vmem S1x1x128 .f32) (h8 : M8.IsWhole)
    (M9 : Memref sig .tc .vmem S1x1024x896 .bf16) (h9 : M9.IsWhole)
    (M10 : Memref sig .tc .vmem S1024x128 .bf16) (h10 : M10.IsWhole)
    (M11 : Memref sig .tc .vmem S32x128 .f32) (h11 : M11.IsWhole)
    (M12 : Memref sig .tc .vmem S1x1024 .f32) (h12 : M12.IsWhole)
    (M13 : Memref sig .tc .vmem S7x32x128 .f32) (h13 : M13.IsWhole)
    (M14 : Memref sig .tc .vmem S7x8x1024 .f32) (h14 : M14.IsWhole)
    (M15 : Memref sig .tc .vmem S128x1024 .f32) (h15 : M15.IsWhole)
    (M16 : Memref sig .tc .vmem S128x1024 .f32) (h16 : M16.IsWhole)
    (M17 : Memref sig .tc .vmem S128x128 .f32) (h17 : M17.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) :
    { W : Bf (F := F) c M9 //
      ∀ (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17)
        (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17
          ∗ (iprop(pt c M2 f2 ∗ pt c M3 f3 ∗ pt c M4 f4 ∗ pt c M5 f5 ∗ pt c M6 f6 ∗ pt c M7 f7 ∗ pt c M8 f8 ∗ pt c M9 W ∗ (∃ f, pt c M10 f) ∗ (∃ f, pt c M11 f) ∗ (∃ f, pt c M12 f) ∗ (∃ f, pt c M13 f) ∗ (∃ f, pt c M14 f) ∗ (∃ f, pt c M15 f) ∗ (∃ f, pt c M16 f) ∗ (∃ f, pt c M17 f)) -∗ Q ⟨⟩))
        ⊢ wp frame (wpE (defs₀ (F := F)) Variants.none c none) E
            (cc0_sage_attn i M2 h2 M3 h3 M4 h4 M5 h5 M6 h6 M7 h7 M8 h8 M9 h9 M10 h10 M11 h11 M12 h12 M13 h13 M14 h14 M15 h15 M16 h16 M17 h17) Q } := by
  refine ⟨?_, fun f9 f10 f11 f12 f13 f14 f15 f16 f17 E Q => ?run⟩
  case run =>
    iintro ⟨H2, H3, H4, H5, H6, H7, H8, H9, H10, H11, H12, H13, H14, H15, H16, H17, Hk⟩
    sl_exec_parts!
    iapply (guard_run (F := F) c i M2 h2 M3 h3 M4 h4 M5 h5 M6 h6 M7 h7 M8 h8 M9 h9 M10 h10 M11 h11 M12 h12 M13 h13 M14 h14 M15 h15 M16 h16 M17 h17 _ _ _ _ _ _ _ _ _ E Q)
    isplitl [H2]; · iexact H2
    isplitl [H7]; · iexact H7
    isplitl [H10]; · iexact H10
    isplitl [H12]; · iexact H12
    isplitl [H13]; · iexact H13
    isplitl [H14]; · iexact H14
    isplitl [H9]; · iexact H9
    iintro ⟨H2, H7, H10, H12, H13, H14, H9⟩
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iexists _; iexact H17

end Cert.Proof.Kernel

end
-- ==== Proof.RunK.lean ====
/- The run of `Kernel`: the pipeline's proof data, the body obligation at every grid point from `kernelRun`, the launch,
   and the frame claim. The scratch buffers lie in the class's invariant (`Pipeline.ΦA`): held at something between the
   points, since the body fills every scratch it reads before it reads it. -/
module

public import proofs.«01_k».proof.Proof.BodyK
public import proofs.«01_k».proof.Proof.Gen.Kernel.Frame
public import Idealize.ShloMosaic.Lib.Claim

@[expose] public section

set_option maxRecDepth 16384

noncomputable section

namespace Cert.Proof.Kernel

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole memref owned at `x` is its buffer held whole at the one contents that read `x`. -/
theorem owns_pt (c : Dev nD) {sp : Space} {S : Shape} {e : EltTy} (M : Memref sig .tc sp S e) (h : M.IsWhole) (x : S.Idx → Elt F e) :
    (owns (c : Thread nD τ) M fullShare x : sProp 𝕄) ⊢ pt c M (h.unread x) := by
  unfold owns pt
  rw [h.set_eq_univ]
  iintro ⟨%f, %hf, H⟩
  obtain rfl := h.eq_unread hf
  iexact H

/-- A whole memref's buffer held whole is owned at what its contents read. -/
theorem pt_owns (c : Dev nD) {sp : Space} {S : Shape} {e : EltTy} (M : Memref sig .tc sp S e) (h : M.IsWhole) (f : Bf (F := F) c M)
    (x : S.Idx → Elt F e) (hx : M.view.read (Elt F) f = x) : (pt c M f : sProp 𝕄) ⊢ owns (c : Thread nD τ) M fullShare x := by
  unfold owns pt
  rw [h.set_eq_univ]
  iintro H
  iexists f
  isplitr
  · ipureintro; exact hx
  iexact H

abbrev hst0_0 (t : Fin cfg0.N) : (st0_0 t).IsWhole := hstage0_0 ((cfg0.slots t 0).cast nbuf0_0)
abbrev hst0_1 (t : Fin cfg0.N) : (st0_1 t).IsWhole := hstage0_1 ((cfg0.slots t 1).cast nbuf0_1)
abbrev hst0_2 (t : Fin cfg0.N) : (st0_2 t).IsWhole := hstage0_2 ((cfg0.slots t 2).cast nbuf0_2)
abbrev hst0_3 (t : Fin cfg0.N) : (st0_3 t).IsWhole := hstage0_3 ((cfg0.slots t 3).cast nbuf0_3)
abbrev hst0_4 (t : Fin cfg0.N) : (st0_4 t).IsWhole := hstage0_4 ((cfg0.slots t 4).cast nbuf0_4)
abbrev hst0_5 (t : Fin cfg0.N) : (st0_5 t).IsWhole := hstage0_5 ((cfg0.slots t 5).cast nbuf0_5)
abbrev hst0_6 (t : Fin cfg0.N) : (st0_6 t).IsWhole := hstage0_6 ((cfg0.slots t 6).cast nbuf0_6)
abbrev hst0_7 (t : Fin cfg0.N) : (st0_7 t).IsWhole := hstage0_7 ((cfg0.slots t 7).cast nbuf0_7)

/-- The body's run at point `t`, from the windows' blocks there. -/
abbrev K (c : Dev nD) (t : Fin cfg0.N) :=
  kernelRun (F := F) c (grid0.coords t) (st0_0 t) (hst0_0 t) (st0_1 t) (hst0_1 t) (st0_2 t) (hst0_2 t) (st0_3 t) (hst0_3 t) (st0_4 t) (hst0_4 t) (st0_5 t) (hst0_5 t) (st0_6 t) (hst0_6 t) (st0_7 t) (hst0_7 t)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)
    ((hst0_0 t).unread (iblk m c 0 t)) ((hst0_1 t).unread (iblk m c 1 t)) ((hst0_2 t).unread (iblk m c 2 t)) ((hst0_3 t).unread (iblk m c 3 t)) ((hst0_4 t).unread (iblk m c 4 t)) ((hst0_5 t).unread (iblk m c 5 t)) ((hst0_6 t).unread (iblk m c 6 t))

/-- The contents the body leaves in the output's staging buffer at point `t`. -/
def outBuf (c : Dev nD) (t : Fin cfg0.N) : Bf (F := F) c (st0_7 t) := (K m c t).1

/-- The output's block at point `t`, as the body leaves it. -/
def outBlk (c : Dev nD) (t : Fin cfg0.N) : S1x1024x896.Idx → Elt F .bf16 := (st0_7 t).view.read (Elt F) (outBuf m c t)

/-- The proof data of the pipeline on core `c`: the arrays as the region finds them; after the body at point `t` each
    input's buffer at its block and the output's at `outBlk`; the invariant the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outBlk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is run from at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 2000000 in
/-- The body at any point: its inputs' buffers and the scratches taken apart, `kernelRun` applied, its post put together. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0_0, after0_1, after0_2, after0_3, after0_4, after0_5, after0_6, after0_7]
  unfold Pipeline.ΦA
  rw [scopedRest0_eq]
  iintro ⟨⟨⟨⟨%f10, H10⟩, ⟨%f11, H11⟩, ⟨%f12, H12⟩, ⟨%f13, H13⟩, ⟨%f14, H14⟩, ⟨%f15, H15⟩, ⟨%f16, H16⟩, ⟨%f17, H17⟩⟩, Hg⟩, Ho,
    ⟨%d0, H0⟩, ⟨%d1, H1⟩, ⟨%d2, H2⟩, ⟨%d3, H3⟩, ⟨%d4, H4⟩, ⟨%d5, H5⟩, ⟨%d6, H6⟩, ⟨%d7, H7⟩⟩
  ihave G0 := (owns_pt (F := F) c (st0_0 t) (hst0_0 t) (iblk m c 0 t)) $$ [H0]
  · iexact H0
  ihave G1 := (owns_pt (F := F) c (st0_1 t) (hst0_1 t) (iblk m c 1 t)) $$ [H1]
  · iexact H1
  ihave G2 := (owns_pt (F := F) c (st0_2 t) (hst0_2 t) (iblk m c 2 t)) $$ [H2]
  · iexact H2
  ihave G3 := (owns_pt (F := F) c (st0_3 t) (hst0_3 t) (iblk m c 3 t)) $$ [H3]
  · iexact H3
  ihave G4 := (owns_pt (F := F) c (st0_4 t) (hst0_4 t) (iblk m c 4 t)) $$ [H4]
  · iexact H4
  ihave G5 := (owns_pt (F := F) c (st0_5 t) (hst0_5 t) (iblk m c 5 t)) $$ [H5]
  · iexact H5
  ihave G6 := (owns_pt (F := F) c (st0_6 t) (hst0_6 t) (iblk m c 6 t)) $$ [H6]
  · iexact H6
  ihave G7 := (owns_pt (F := F) c (st0_7 t) (hst0_7 t) ((dats m 0 c).before 7 t d7)) $$ [H7]
  · iexact H7
  iapply ((K m c t).2 _ f10 f11 f12 f13 f14 f15 f16 f17 Set.univ _)
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨G0, G1, G2, G3, G4, G5, G6, G7, H10, H11, H12, H13, H14, H15, H16, H17⟩
  isplitl [H10 H11 H12 H13 H14 H15 H16 H17 Hg]
  · isplitr [Hg]
    · isplitl [H10]; · iexact H10
      isplitl [H11]; · iexact H11
      isplitl [H12]; · iexact H12
      isplitl [H13]; · iexact H13
      isplitl [H14]; · iexact H14
      isplitl [H15]; · iexact H15
      isplitl [H16]; · iexact H16
      iexact H17
    · iexact Hg
  isplitl [Ho]; · iexact Ho
  isplitl [G0]; · iapply (pt_owns (F := F) c (st0_0 t) (hst0_0 t) _ _ ((hst0_0 t).read_unread _)); iexact G0
  isplitl [G1]; · iapply (pt_owns (F := F) c (st0_1 t) (hst0_1 t) _ _ ((hst0_1 t).read_unread _)); iexact G1
  isplitl [G2]; · iapply (pt_owns (F := F) c (st0_2 t) (hst0_2 t) _ _ ((hst0_2 t).read_unread _)); iexact G2
  isplitl [G3]; · iapply (pt_owns (F := F) c (st0_3 t) (hst0_3 t) _ _ ((hst0_3 t).read_unread _)); iexact G3
  isplitl [G4]; · iapply (pt_owns (F := F) c (st0_4 t) (hst0_4 t) _ _ ((hst0_4 t).read_unread _)); iexact G4
  isplitl [G5]; · iapply (pt_owns (F := F) c (st0_5 t) (hst0_5 t) _ _ ((hst0_5 t).read_unread _)); iexact G5
  isplitl [G6]; · iapply (pt_owns (F := F) c (st0_6 t) (hst0_6 t) _ _ ((hst0_6 t).read_unread _)); iexact G6
  iapply (pt_owns (F := F) c (st0_7 t) (hst0_7 t) (outBuf m c t) (outBlk m c t) rfl); iexact G7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- `θ_run_frame`'s implicit arguments are found by unifying its conclusion with this one, which takes unfolding plain
-- definitions in a metavariable's type
set_option backward.isDefEq.respectTransparency.types false in
set_option maxHeartbeats 800000 in
/-- The launch: every execution terminates, every final state has the pipeline's arrays at what the proof data says, the
    other unscoped buffers as the region found them, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame claim: the arguments end unchanged and every semaphore counter at zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.Proof.Kernel

end
-- ==== Proof.GuardI.lean ====
/- The guarded loop of `KernelIdeal`: when the guard's word is one, the loop over all blocks writes its pieces over the output;
   when it is not, nothing happens. -/
module

public import proofs.«01_k».proof.Proof.Gen.KernelIdeal
public import proofs.«01_k».proof.Proof.Gen.KernelIdeal.Loops
public import Idealize.ShloMosaic.Lib.Tactic
public import Idealize.ShloMosaic.Lib.Pipeline.Kit

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- A whole memref's buffer held whole is held at its view's cells, -/
theorem pt_cells (c : Dev nD) {sp : Space} {S : Shape} {e : EltTy} (M : Memref sig .tc sp S e) (h : M.IsWhole) (f : Bf (F := F) c M) :
    (pt c M f : sProp 𝕄) ⊢ M.view.loc (c : Thread nD τ) ↦[M.view.set]{fullShare} f := by
  unfold pt
  rw [h.set_eq_univ]

/-- and conversely. -/
theorem cells_pt (c : Dev nD) {sp : Space} {S : Shape} {e : EltTy} (M : Memref sig .tc sp S e) (h : M.IsWhole) (f : Bf (F := F) c M) :
    (M.view.loc (c : Thread nD τ) ↦[M.view.set]{fullShare} f : sProp 𝕄) ⊢ pt c M f := by
  unfold pt
  rw [h.set_eq_univ]

/-- The output's contents after the guarded loop, from those before it (`f9`): with the loop's pieces written over
    them when the guard's word `b` is one. -/
def guarded (c : Dev nD) (i : grid0.Coords)
    (M2 : Memref sig .tc .vmem S1x7x1024x128 .i8) (h2 : M2.IsWhole)
    (M3 : Memref sig .tc .vmem S28x2x32 .f32) (h3 : M3.IsWhole)
    (M4 : Memref sig .tc .vmem S1x7x8x128 .bf16) (h4 : M4.IsWhole)
    (M5 : Memref sig .tc .vmem S1x1x1024x128 .i8) (h5 : M5.IsWhole)
    (M6 : Memref sig .tc .vmem S1x1x1x32 .f32) (h6 : M6.IsWhole)
    (M7 : Memref sig .tc .vmem S1x1x1024x128 .fp8e4m3) (h7 : M7.IsWhole)
    (M8 : Memref sig .tc .vmem S1x1x128 .f32) (h8 : M8.IsWhole)
    (M9 : Memref sig .tc .vmem S1x1024x896 .bf16) (h9 : M9.IsWhole)
    (M10 : Memref sig .tc .vmem S1024x128 .bf16) (h10 : M10.IsWhole)
    (M11 : Memref sig .tc .vmem S32x128 .f32) (h11 : M11.IsWhole)
    (M12 : Memref sig .tc .vmem S1x1024 .f32) (h12 : M12.IsWhole)
    (M13 : Memref sig .tc .vmem S7x32x128 .f32) (h13 : M13.IsWhole)
    (M14 : Memref sig .tc .vmem S7x8x1024 .f32) (h14 : M14.IsWhole)
    (M15 : Memref sig .tc .vmem S128x1024 .f32) (h15 : M15.IsWhole)
    (M16 : Memref sig .tc .vmem S128x1024 .f32) (h16 : M16.IsWhole)
    (M17 : Memref sig .tc .vmem S128x128 .f32) (h17 : M17.IsWhole)
    (v369 : FVec F S1x128 .f32) (b : BitVec 1) (f2 : Bf (F := F) c M2) (f7 : Bf (F := F) c M7) (f10 : Bf (F := F) c M10) (f12 : Bf (F := F) c M12) (f13 : Bf (F := F) c M13) (f14 : Bf (F := F) c M14) (f9 : Bf (F := F) c M9) : Bf (F := F) c M9 :=
  if b = 1#1 then M9.view.writes (Elt F) f9 (pb_k0_t1 (F := F) Variants.none c none i M2 h2 M3 h3 M4 h4 M5 h5 M6 h6 M7 h7 M8 h8 M9 h9 M10 h10 M11 h11 M12 h12 M13 h13 M14 h14 M15 h15 M16 h16 M17 h17 v369 f2 f7 f10 f12 f13 f14 k0_t1_loop.trips) else f9

/-- The guarded loop's run. -/
theorem guard_run (c : Dev nD) (i : grid0.Coords)
    (M2 : Memref sig .tc .vmem S1x7x1024x128 .i8) (h2 : M2.IsWhole)
    (M3 : Memref sig .tc .vmem S28x2x32 .f32) (h3 : M3.IsWhole)
    (M4 : Memref sig .tc .vmem S1x7x8x128 .bf16) (h4 : M4.IsWhole)
    (M5 : Memref sig .tc .vmem S1x1x1024x128 .i8) (h5 : M5.IsWhole)
    (M6 : Memref sig .tc .vmem S1x1x1x32 .f32) (h6 : M6.IsWhole)
    (M7 : Memref sig .tc .vmem S1x1x1024x128 .fp8e4m3) (h7 : M7.IsWhole)
    (M8 : Memref sig .tc .vmem S1x1x128 .f32) (h8 : M8.IsWhole)
    (M9 : Memref sig .tc .vmem S1x1024x896 .bf16) (h9 : M9.IsWhole)
    (M10 : Memref sig .tc .vmem S1024x128 .bf16) (h10 : M10.IsWhole)
    (M11 : Memref sig .tc .vmem S32x128 .f32) (h11 : M11.IsWhole)
    (M12 : Memref sig .tc .vmem S1x1024 .f32) (h12 : M12.IsWhole)
    (M13 : Memref sig .tc .vmem S7x32x128 .f32) (h13 : M13.IsWhole)
    (M14 : Memref sig .tc .vmem S7x8x1024 .f32) (h14 : M14.IsWhole)
    (M15 : Memref sig .tc .vmem S128x1024 .f32) (h15 : M15.IsWhole)
    (M16 : Memref sig .tc .vmem S128x1024 .f32) (h16 : M16.IsWhole)
    (M17 : Memref sig .tc .vmem S128x128 .f32) (h17 : M17.IsWhole)
    (v369 : FVec F S1x128 .f32) (b : BitVec 1) (f2 : Bf (F := F) c M2) (f7 : Bf (F := F) c M7) (f10 : Bf (F := F) c M10) (f12 : Bf (F := F) c M12) (f13 : Bf (F := F) c M13) (f14 : Bf (F := F) c M14) (f9 : Bf (F := F) c M9) (E : Set ℕ) (Q : PUnit → sProp 𝕄) :
    iprop(pt c M2 f2 ∗ pt c M7 f7 ∗ pt c M10 f10 ∗ pt c M12 f12 ∗ pt c M13 f13 ∗ pt c M14 f14 ∗ pt c M9 f9
      ∗ (iprop(pt c M2 f2 ∗ pt c M7 f7 ∗ pt c M10 f10 ∗ pt c M12 f12 ∗ pt c M13 f13 ∗ pt c M14 f14 ∗ pt c M9 (guarded c i M2 h2 M3 h3 M4 h4 M5 h5 M6 h6 M7 h7 M8 h8 M9 h9 M10 h10 M11 h11 M12 h12 M13 h13 M14 h14 M15 h15 M16 h16 M17 h17 v369 b f2 f7 f10 f12 f13 f14 f9)) -∗ Q ⟨⟩))
    ⊢ wp frame (wpE (defs₀ (F := F)) Variants.none c none) E
        (if b = 1#1 then (do
            Scf.Loop.for k0_t1_loop k0_t1_ok ⟨⟩ (k0_t1_body i M2 h2 M3 h3 M4 h4 M5 h5 M6 h6 M7 h7 M8 h8 M9 h9 M10 h10 M11 h11 M12 h12 M13 h13 M14 h14 M15 h15 M16 h16 M17 h17 v369)
            (fun _ => pure ⟨⟩ : PUnit.{1} → Prog (TpuEff nD τ sig (Elt F) Λ₀ .tc) PUnit) ⟨⟩)
          else (fun _ => pure ⟨⟩ : PUnit.{1} → Prog (TpuEff nD τ sig (Elt F) Λ₀ .tc) PUnit) ⟨⟩) Q := by
  iintro ⟨H2, H7, H10, H12, H13, H14, H9, Hk⟩
  unfold guarded
  by_cases hc : b = 1#1
  · rw [if_pos hc, if_pos hc]
    ihave C2 := (pt_cells (F := F) c M2 h2 _) $$ [H2]; · iexact H2
    ihave C7 := (pt_cells (F := F) c M7 h7 _) $$ [H7]; · iexact H7
    ihave C10 := (pt_cells (F := F) c M10 h10 _) $$ [H10]; · iexact H10
    ihave C12 := (pt_cells (F := F) c M12 h12 _) $$ [H12]; · iexact H12
    ihave C13 := (pt_cells (F := F) c M13 h13 _) $$ [H13]; · iexact H13
    ihave C14 := (pt_cells (F := F) c M14 h14 _) $$ [H14]; · iexact H14
    ihave C9 := (pt_cells (F := F) c M9 h9 _) $$ [H9]; · iexact H9
    sl_exec
    sl_step
    iapply Hk
    isplitl [C2]; · iapply (cells_pt (F := F) c M2 h2 _); iexact C2
    isplitl [C7]; · iapply (cells_pt (F := F) c M7 h7 _); iexact C7
    isplitl [C10]; · iapply (cells_pt (F := F) c M10 h10 _); iexact C10
    isplitl [C12]; · iapply (cells_pt (F := F) c M12 h12 _); iexact C12
    isplitl [C13]; · iapply (cells_pt (F := F) c M13 h13 _); iexact C13
    isplitl [C14]; · iapply (cells_pt (F := F) c M14 h14 _); iexact C14
    iapply (cells_pt (F := F) c M9 h9 _); iexact C9
  · rw [if_neg hc, if_neg hc]
    sl_step
    iapply Hk
    isplitl [H2]; · iexact H2
    isplitl [H7]; · iexact H7
    isplitl [H10]; · iexact H10
    isplitl [H12]; · iexact H12
    isplitl [H13]; · iexact H13
    isplitl [H14]; · iexact H14
    iexact H9

end Cert.Proof.KernelIdeal

end
-- ==== Proof.BodyI.lean ====
module

public import proofs.«01_k».proof.Proof.GuardI
public import Idealize.ShloMosaic.Lib.Tactic
public import Idealize.ShloMosaic.Lib.Pipeline.Kit

@[expose] public section

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The contents the body leaves in the output's staging buffer, with the proof that the body, run from its sixteen
    buffers held whole, gives back the seven inputs' as they were, the output's at those contents, and the eight scratch
    buffers at something. -/
noncomputable def kernelRun (c : Dev nD) (i : grid0.Coords)
    (M2 : Memref sig .tc .vmem S1x7x1024x128 .i8) (h2 : M2.IsWhole)
    (M3 : Memref sig .tc .vmem S28x2x32 .f32) (h3 : M3.IsWhole)
    (M4 : Memref sig .tc .vmem S1x7x8x128 .bf16) (h4 : M4.IsWhole)
    (M5 : Memref sig .tc .vmem S1x1x1024x128 .i8) (h5 : M5.IsWhole)
    (M6 : Memref sig .tc .vmem S1x1x1x32 .f32) (h6 : M6.IsWhole)
    (M7 : Memref sig .tc .vmem S1x1x1024x128 .fp8e4m3) (h7 : M7.IsWhole)
    (M8 : Memref sig .tc .vmem S1x1x128 .f32) (h8 : M8.IsWhole)
    (M9 : Memref sig .tc .vmem S1x1024x896 .bf16) (h9 : M9.IsWhole)
    (M10 : Memref sig .tc .vmem S1024x128 .bf16) (h10 : M10.IsWhole)
    (M11 : Memref sig .tc .vmem S32x128 .f32) (h11 : M11.IsWhole)
    (M12 : Memref sig .tc .vmem S1x1024 .f32) (h12 : M12.IsWhole)
    (M13 : Memref sig .tc .vmem S7x32x128 .f32) (h13 : M13.IsWhole)
    (M14 : Memref sig .tc .vmem S7x8x1024 .f32) (h14 : M14.IsWhole)
    (M15 : Memref sig .tc .vmem S128x1024 .f32) (h15 : M15.IsWhole)
    (M16 : Memref sig .tc .vmem S128x1024 .f32) (h16 : M16.IsWhole)
    (M17 : Memref sig .tc .vmem S128x128 .f32) (h17 : M17.IsWhole)
    (f2 : Bf (F := F) c M2) (f3 : Bf (F := F) c M3) (f4 : Bf (F := F) c M4) (f5 : Bf (F := F) c M5) (f6 : Bf (F := F) c M6) (f7 : Bf (F := F) c M7) (f8 : Bf (F := F) c M8) :
    { W : Bf (F := F) c M9 //
      ∀ (f9 : Bf (F := F) c M9) (f10 : Bf (F := F) c M10) (f11 : Bf (F := F) c M11) (f12 : Bf (F := F) c M12) (f13 : Bf (F := F) c M13) (f14 : Bf (F := F) c M14) (f15 : Bf (F := F) c M15) (f16 : Bf (F := F) c M16) (f17 : Bf (F := F) c M17)
        (E : Set ℕ) (Q : PUnit → sProp 𝕄),
        iprop(pt c M2 f2 ∗ pt c M3 f3 ∗ pt c M4 f4 ∗ pt c M5 f5 ∗ pt c M6 f6 ∗ pt c M7 f7 ∗ pt c M8 f8 ∗ pt c M9 f9 ∗ pt c M10 f10 ∗ pt c M11 f11 ∗ pt c M12 f12 ∗ pt c M13 f13 ∗ pt c M14 f14 ∗ pt c M15 f15 ∗ pt c M16 f16 ∗ pt c M17 f17
          ∗ (iprop(pt c M2 f2 ∗ pt c M3 f3 ∗ pt c M4 f4 ∗ pt c M5 f5 ∗ pt c M6 f6 ∗ pt c M7 f7 ∗ pt c M8 f8 ∗ pt c M9 W ∗ (∃ f, pt c M10 f) ∗ (∃ f, pt c M11 f) ∗ (∃ f, pt c M12 f) ∗ (∃ f, pt c M13 f) ∗ (∃ f, pt c M14 f) ∗ (∃ f, pt c M15 f) ∗ (∃ f, pt c M16 f) ∗ (∃ f, pt c M17 f)) -∗ Q ⟨⟩))
        ⊢ wp frame (wpE (defs₀ (F := F)) Variants.none c none) E
            (cc0_sage_attn i M2 h2 M3 h3 M4 h4 M5 h5 M6 h6 M7 h7 M8 h8 M9 h9 M10 h10 M11 h11 M12 h12 M13 h13 M14 h14 M15 h15 M16 h16 M17 h17) Q } := by
  refine ⟨?_, fun f9 f10 f11 f12 f13 f14 f15 f16 f17 E Q => ?run⟩
  case run =>
    iintro ⟨H2, H3, H4, H5, H6, H7, H8, H9, H10, H11, H12, H13, H14, H15, H16, H17, Hk⟩
    sl_exec_parts!
    iapply (guard_run (F := F) c i M2 h2 M3 h3 M4 h4 M5 h5 M6 h6 M7 h7 M8 h8 M9 h9 M10 h10 M11 h11 M12 h12 M13 h13 M14 h14 M15 h15 M16 h16 M17 h17 _ _ _ _ _ _ _ _ _ E Q)
    isplitl [H2]; · iexact H2
    isplitl [H7]; · iexact H7
    isplitl [H10]; · iexact H10
    isplitl [H12]; · iexact H12
    isplitl [H13]; · iexact H13
    isplitl [H14]; · iexact H14
    isplitl [H9]; · iexact H9
    iintro ⟨H2, H7, H10, H12, H13, H14, H9⟩
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    iexists _; iexact H17

end Cert.Proof.KernelIdeal

end
-- ==== Proof.RunI.lean ====
/- The run of `KernelIdeal`: the pipeline's proof data, the body obligation at every grid point from `kernelRun`, the launch,
   and the frame claim. The scratch buffers lie in the class's invariant (`Pipeline.ΦA`): held at something between the
   points, since the body fills every scratch it reads before it reads it. -/
module

public import proofs.«01_k».proof.Proof.BodyI
public import proofs.«01_k».proof.Proof.Gen.KernelIdeal.Frame
public import Idealize.ShloMosaic.Lib.Claim

@[expose] public section

set_option maxRecDepth 16384

noncomputable section

namespace Cert.Proof.KernelIdeal

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A whole memref owned at `x` is its buffer held whole at the one contents that read `x`. -/
theorem owns_pt (c : Dev nD) {sp : Space} {S : Shape} {e : EltTy} (M : Memref sig .tc sp S e) (h : M.IsWhole) (x : S.Idx → Elt F e) :
    (owns (c : Thread nD τ) M fullShare x : sProp 𝕄) ⊢ pt c M (h.unread x) := by
  unfold owns pt
  rw [h.set_eq_univ]
  iintro ⟨%f, %hf, H⟩
  obtain rfl := h.eq_unread hf
  iexact H

/-- A whole memref's buffer held whole is owned at what its contents read. -/
theorem pt_owns (c : Dev nD) {sp : Space} {S : Shape} {e : EltTy} (M : Memref sig .tc sp S e) (h : M.IsWhole) (f : Bf (F := F) c M)
    (x : S.Idx → Elt F e) (hx : M.view.read (Elt F) f = x) : (pt c M f : sProp 𝕄) ⊢ owns (c : Thread nD τ) M fullShare x := by
  unfold owns pt
  rw [h.set_eq_univ]
  iintro H
  iexists f
  isplitr
  · ipureintro; exact hx
  iexact H

abbrev hst0_0 (t : Fin cfg0.N) : (st0_0 t).IsWhole := hstage0_0 ((cfg0.slots t 0).cast nbuf0_0)
abbrev hst0_1 (t : Fin cfg0.N) : (st0_1 t).IsWhole := hstage0_1 ((cfg0.slots t 1).cast nbuf0_1)
abbrev hst0_2 (t : Fin cfg0.N) : (st0_2 t).IsWhole := hstage0_2 ((cfg0.slots t 2).cast nbuf0_2)
abbrev hst0_3 (t : Fin cfg0.N) : (st0_3 t).IsWhole := hstage0_3 ((cfg0.slots t 3).cast nbuf0_3)
abbrev hst0_4 (t : Fin cfg0.N) : (st0_4 t).IsWhole := hstage0_4 ((cfg0.slots t 4).cast nbuf0_4)
abbrev hst0_5 (t : Fin cfg0.N) : (st0_5 t).IsWhole := hstage0_5 ((cfg0.slots t 5).cast nbuf0_5)
abbrev hst0_6 (t : Fin cfg0.N) : (st0_6 t).IsWhole := hstage0_6 ((cfg0.slots t 6).cast nbuf0_6)
abbrev hst0_7 (t : Fin cfg0.N) : (st0_7 t).IsWhole := hstage0_7 ((cfg0.slots t 7).cast nbuf0_7)

/-- The body's run at point `t`, from the windows' blocks there. -/
abbrev K (c : Dev nD) (t : Fin cfg0.N) :=
  kernelRun (F := F) c (grid0.coords t) (st0_0 t) (hst0_0 t) (st0_1 t) (hst0_1 t) (st0_2 t) (hst0_2 t) (st0_3 t) (hst0_3 t) (st0_4 t) (hst0_4 t) (st0_5 t) (hst0_5 t) (st0_6 t) (hst0_6 t) (st0_7 t) (hst0_7 t)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _)
    ((hst0_0 t).unread (iblk m c 0 t)) ((hst0_1 t).unread (iblk m c 1 t)) ((hst0_2 t).unread (iblk m c 2 t)) ((hst0_3 t).unread (iblk m c 3 t)) ((hst0_4 t).unread (iblk m c 4 t)) ((hst0_5 t).unread (iblk m c 5 t)) ((hst0_6 t).unread (iblk m c 6 t))

/-- The contents the body leaves in the output's staging buffer at point `t`. -/
def outBuf (c : Dev nD) (t : Fin cfg0.N) : Bf (F := F) c (st0_7 t) := (K m c t).1

/-- The output's block at point `t`, as the body leaves it. -/
def outBlk (c : Dev nD) (t : Fin cfg0.N) : S1x1024x896.Idx → Elt F .bf16 := (st0_7 t).view.read (Elt F) (outBuf m c t)

/-- The proof data of the pipeline on core `c`: the arrays as the region finds them; after the body at point `t` each
    input's buffer at its block and the output's at `outBlk`; the invariant the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlk m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outBlk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- What the body is run from at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

set_option maxHeartbeats 2000000 in
/-- The body at any point: its inputs' buffers and the scratches taken apart, `kernelRun` applied, its post put together. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after0_0, after0_1, after0_2, after0_3, after0_4, after0_5, after0_6, after0_7]
  unfold Pipeline.ΦA
  rw [scopedRest0_eq]
  iintro ⟨⟨⟨⟨%f10, H10⟩, ⟨%f11, H11⟩, ⟨%f12, H12⟩, ⟨%f13, H13⟩, ⟨%f14, H14⟩, ⟨%f15, H15⟩, ⟨%f16, H16⟩, ⟨%f17, H17⟩⟩, Hg⟩, Ho,
    ⟨%d0, H0⟩, ⟨%d1, H1⟩, ⟨%d2, H2⟩, ⟨%d3, H3⟩, ⟨%d4, H4⟩, ⟨%d5, H5⟩, ⟨%d6, H6⟩, ⟨%d7, H7⟩⟩
  ihave G0 := (owns_pt (F := F) c (st0_0 t) (hst0_0 t) (iblk m c 0 t)) $$ [H0]
  · iexact H0
  ihave G1 := (owns_pt (F := F) c (st0_1 t) (hst0_1 t) (iblk m c 1 t)) $$ [H1]
  · iexact H1
  ihave G2 := (owns_pt (F := F) c (st0_2 t) (hst0_2 t) (iblk m c 2 t)) $$ [H2]
  · iexact H2
  ihave G3 := (owns_pt (F := F) c (st0_3 t) (hst0_3 t) (iblk m c 3 t)) $$ [H3]
  · iexact H3
  ihave G4 := (owns_pt (F := F) c (st0_4 t) (hst0_4 t) (iblk m c 4 t)) $$ [H4]
  · iexact H4
  ihave G5 := (owns_pt (F := F) c (st0_5 t) (hst0_5 t) (iblk m c 5 t)) $$ [H5]
  · iexact H5
  ihave G6 := (owns_pt (F := F) c (st0_6 t) (hst0_6 t) (iblk m c 6 t)) $$ [H6]
  · iexact H6
  ihave G7 := (owns_pt (F := F) c (st0_7 t) (hst0_7 t) ((dats m 0 c).before 7 t d7)) $$ [H7]
  · iexact H7
  iapply ((K m c t).2 _ f10 f11 f12 f13 f14 f15 f16 f17 Set.univ _)
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨G0, G1, G2, G3, G4, G5, G6, G7, H10, H11, H12, H13, H14, H15, H16, H17⟩
  isplitl [H10 H11 H12 H13 H14 H15 H16 H17 Hg]
  · isplitr [Hg]
    · isplitl [H10]; · iexact H10
      isplitl [H11]; · iexact H11
      isplitl [H12]; · iexact H12
      isplitl [H13]; · iexact H13
      isplitl [H14]; · iexact H14
      isplitl [H15]; · iexact H15
      isplitl [H16]; · iexact H16
      iexact H17
    · iexact Hg
  isplitl [Ho]; · iexact Ho
  isplitl [G0]; · iapply (pt_owns (F := F) c (st0_0 t) (hst0_0 t) _ _ ((hst0_0 t).read_unread _)); iexact G0
  isplitl [G1]; · iapply (pt_owns (F := F) c (st0_1 t) (hst0_1 t) _ _ ((hst0_1 t).read_unread _)); iexact G1
  isplitl [G2]; · iapply (pt_owns (F := F) c (st0_2 t) (hst0_2 t) _ _ ((hst0_2 t).read_unread _)); iexact G2
  isplitl [G3]; · iapply (pt_owns (F := F) c (st0_3 t) (hst0_3 t) _ _ ((hst0_3 t).read_unread _)); iexact G3
  isplitl [G4]; · iapply (pt_owns (F := F) c (st0_4 t) (hst0_4 t) _ _ ((hst0_4 t).read_unread _)); iexact G4
  isplitl [G5]; · iapply (pt_owns (F := F) c (st0_5 t) (hst0_5 t) _ _ ((hst0_5 t).read_unread _)); iexact G5
  isplitl [G6]; · iapply (pt_owns (F := F) c (st0_6 t) (hst0_6 t) _ _ ((hst0_6 t).read_unread _)); iexact G6
  iapply (pt_owns (F := F) c (st0_7 t) (hst0_7 t) (outBuf m c t) (outBlk m c t) rfl); iexact G7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- `θ_run_frame`'s implicit arguments are found by unifying its conclusion with this one, which takes unfolding plain
-- definitions in a metavariable's type
set_option backward.isDefEq.respectTransparency.types false in
set_option maxHeartbeats 800000 in
/-- The launch: every execution terminates, every final state has the pipeline's arrays at what the proof data says, the
    other unscoped buffers as the region found them, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame claim: the arguments end unchanged and every semaphore counter at zero. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.Proof.KernelIdeal

end
-- ==== Proof.Softmax.lean ====
/- Softmax over the reals, as three programs write it: by powers of two with no shift, by powers of two shifted by the
   row's greatest score, and by the natural exponential shifted likewise. All three give the same quantised probability
   when the scores are finite. -/
module

public import Idealize.ShloMosaic.PureOps.Ideal
public import Mathlib.Analysis.SpecialFunctions.Pow.Real

@[expose] public section

noncomputable section

namespace Cert.Proof.Softmax

open Idealize.ShloMosaic

/-- The quantiser's clip to the range of the 8-bit format (its rounding is the identity over the reals). -/
def clip (x : EReal) : EReal := min (max x 0) 448

/-- A row's scores in base two: the `j`-th weight of row `n`, zero past the diagonal; -/
def w (s : Fin 1024 → ℝ) (n : ℕ) (j : Fin 1024) : ℝ := if j.val ≤ n then (2 : ℝ) ^ s j else 0

/-- the row's sum of weights; -/
def Z (s : Fin 1024 → ℝ) (n : ℕ) : ℝ := ∑ j, w s n j

/-- and the quantised probability. -/
def prob (s : Fin 1024 → ℝ) (n : ℕ) (j : Fin 1024) : EReal := clip ((256 * (w s n j / Z s n) : ℝ) : EReal)

variable (s : Fin 1024 → ℝ) (n : ℕ)

theorem w_nonneg (j : Fin 1024) : 0 ≤ w s n j := by
  unfold w; split
  · exact (Real.rpow_pos_of_pos two_pos _).le
  · exact le_rfl

theorem Z_pos : 0 < Z s n := by
  refine Finset.sum_pos' (fun j _ => w_nonneg s n j) ⟨0, Finset.mem_univ _, ?_⟩
  rw [w, if_pos (show (0 : Fin 1024).val ≤ n from Nat.zero_le _)]
  exact Real.rpow_pos_of_pos two_pos _

/-- Past the diagonal the probability is zero. -/
theorem prob_masked (j : Fin 1024) (h : ¬ j.val ≤ n) : prob s n j = 0 := by
  simp [prob, w, h, clip]

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- Weights and sum scaled alike, the sum divided into 256 first; -/
theorem prob_of_scaled (c : ℝ) (hc : 0 < c) (j : Fin 1024) :
    clip (((w s n j * c : ℝ) : EReal) * Ideal.div 256 ((Z s n * c : ℝ) : EReal)) = prob s n j := by
  have hz := Z_pos s n
  have h256 : (256 : EReal) = ((256 : ℝ) : EReal) := by norm_cast
  rw [h256, div_coe _ _ (mul_pos hz hc).ne', ← EReal.coe_mul, prob]
  congr 2
  field_simp

/-- and divided first, multiplied by 256 after. -/
theorem prob_of_scaled' (c : ℝ) (hc : 0 < c) (j : Fin 1024) :
    clip (Ideal.div ((w s n j * c : ℝ) : EReal) ((Z s n * c : ℝ) : EReal) * 256) = prob s n j := by
  have hz := Z_pos s n
  have h256 : (256 : EReal) = ((256 : ℝ) : EReal) := by norm_cast
  rw [h256, div_coe _ _ (mul_pos hz hc).ne', ← EReal.coe_mul, prob]
  congr 2
  field_simp

/-- A sum of finite values is the finite sum. -/
theorem sum_coe {ι : Type} (S : Finset ι) (f : ι → ℝ) : (∑ j ∈ S, ((f j : ℝ) : EReal)) = ((∑ j ∈ S, f j : ℝ) : EReal) := by
  classical
  induction S using Finset.induction_on with
  | empty => simp
  | insert a S ha ih => rw [Finset.sum_insert ha, Finset.sum_insert ha, ih, EReal.coe_add]

/-- The row's scores, scaled by `κ`, with minus infinity past the diagonal. -/
def score (κ : ℝ) (j : Fin 1024) : EReal := if j.val ≤ n then ((s j * κ : ℝ) : EReal) else ⊥

/-- The greatest of them is finite. -/
theorem max_real (κ : ℝ) (M : EReal) (hle : ∀ j, score s n κ j ≤ M) (hex : ∃ j, M = score s n κ j) : ∃ μ : ℝ, M = (μ : EReal) := by
  obtain ⟨j, hj⟩ := hex
  unfold score at hj
  split at hj
  · exact ⟨_, hj⟩
  · exfalso
    have h0 := hle 0
    rw [hj, score, if_pos (show (0 : Fin 1024).val ≤ n from Nat.zero_le _)] at h0
    exact absurd (le_bot_iff.mp h0) (EReal.coe_ne_bot _)

/-- The shifted power of two of a score is the weight scaled; -/
theorem exp2_score (μ : ℝ) (j : Fin 1024) :
    Ideal.exp2 (score s n 1 j - (μ : EReal)) = ((w s n j * (2 : ℝ) ^ (-μ) : ℝ) : EReal) := by
  unfold score w
  split
  · rw [← EReal.coe_sub, mul_one, Ideal.exp2_coe]
    norm_cast
    show (2 : ℝ) ^ (s j - μ) = _
    rw [← Real.rpow_add two_pos, sub_eq_add_neg]
  · rw [EReal.bot_sub, Ideal.exp2_bot, zero_mul, EReal.coe_zero]

/-- the shifted natural exponential of a score times the logarithm of two likewise. -/
theorem exp_score (μ : ℝ) (j : Fin 1024) :
    Ideal.exp (score s n (Real.log 2) j - (μ : EReal)) = ((w s n j * Real.exp (-μ) : ℝ) : EReal) := by
  unfold score w
  split
  · rw [← EReal.coe_sub, Ideal.exp_coe, Real.rpow_def_of_pos two_pos, ← Real.exp_add, mul_comm (Real.log 2), sub_eq_add_neg]
  · rw [EReal.bot_sub, Ideal.exp_bot, zero_mul, EReal.coe_zero]

/-- Softmax by powers of two, shifted by the greatest score. -/
theorem prob_exp2 (M : EReal) (hle : ∀ j, score s n 1 j ≤ M) (hex : ∃ j, M = score s n 1 j) (j : Fin 1024) :
    clip (Ideal.exp2 (score s n 1 j - M) * Ideal.div 256 (∑ i, Ideal.exp2 (score s n 1 i - M))) = prob s n j := by
  obtain ⟨μ, rfl⟩ := max_real s n 1 M hle hex
  simp only [exp2_score]
  rw [sum_coe, ← Finset.sum_mul]
  exact prob_of_scaled s n _ (Real.rpow_pos_of_pos two_pos _) j

/-- Softmax by the natural exponential, shifted by the greatest score. -/
theorem prob_exp (M : EReal) (hle : ∀ j, score s n (Real.log 2) j ≤ M) (hex : ∃ j, M = score s n (Real.log 2) j) (j : Fin 1024) :
    clip (Ideal.div (Ideal.exp (score s n (Real.log 2) j - M)) (∑ i, Ideal.exp (score s n (Real.log 2) i - M)) * 256) = prob s n j := by
  obtain ⟨μ, rfl⟩ := max_real s n (Real.log 2) M hle hex
  simp only [exp_score]
  rw [sum_coe, ← Finset.sum_mul]
  exact prob_of_scaled' s n _ (Real.exp_pos _) j

/-- Softmax by powers of two with no shift. -/
theorem prob_plain (j : Fin 1024) : clip (((w s n j : ℝ) : EReal) * Ideal.div 256 (∑ i, ((w s n i : ℝ) : EReal))) = prob s n j := by
  rw [sum_coe]
  simpa [Z] using prob_of_scaled s n 1 one_pos j

end Cert.Proof.Softmax

end
-- ==== Proof.Spec.lean ====
/- What one query head computes, over the reals: its scores in base two from the codes and scales, the quantised
   probabilities of the causal row, and their product with the value codes. Both programs are read against it. -/
module

public import Idealize.ShloMosaic.Lib.Pointwise
public import proofs.«01_k».proof.Proof.Softmax

@[expose] public section

noncomputable section

namespace Cert.Proof.Spec

open Idealize.ShloMosaic Cert.Proof.Softmax

/-- The factor of the scores in base two: the inverse root of the head's width over the natural logarithm of two. -/
def κ : ℝ := (Real.sqrt 128)⁻¹ * (Real.log 2)⁻¹

/-- One score in base two: query codes `q` at scale `qs` against key codes `k` at scale `ks`, with the mean's term added. -/
def base2 (q : Fin 128 → ℝ) (qs : ℝ) (qm k : Fin 128 → ℝ) (ks : ℝ) : ℝ :=
  (∑ d, q d * k d) * (qs * (ks * κ)) + (∑ d, qm d * k d) * (ks * κ)

/-- One query head's operands: its query codes, scales (of 32 tokens each) and means (of 128), and its group's key codes,
    key scales (of 32 tokens each), value codes and value scales. -/
structure Head where
  q : Fin 1024 → Fin 128 → ℝ
  qs : Fin 32 → ℝ
  qm : Fin 8 → Fin 128 → ℝ
  k : Fin 1024 → Fin 128 → ℝ
  ks : Fin 32 → ℝ
  v : Fin 1024 → Fin 128 → EReal
  vs : Fin 128 → EReal

/-- The block of 32 tokens that token `i` lies in, -/
def tok (i : Fin 1024) : Fin 32 := ⟨i.val / 32, by omega⟩
/-- and its block of 128. -/
def blk (i : Fin 1024) : Fin 8 := ⟨i.val / 128, by omega⟩

namespace Head
variable (H : Head)

/-- The head's score of query `i` against key `j`, in base two, -/
def score (i j : Fin 1024) : ℝ := base2 (H.q i) (H.qs (tok i)) (H.qm (blk i)) (H.k j) (H.ks (tok j))

/-- and its result at query `i`, lane `d`. -/
def out (i : Fin 1024) (d : Fin 128) : EReal :=
  (∑ j, prob (H.score i) i.val j * H.v j d) * (H.vs d * ((1 / 256 : ℝ) : EReal))

end Head

/-- Head `h` of batch entry `b`, out of the seven argument arrays: seven query heads share a key/value head. -/
def headOf (a0 : (⟨4, ![2, 1024, 28, 128]⟩ : Shape).Idx → BitVec 8) (a1 : (⟨3, ![2, 32, 28]⟩ : Shape).Idx → EReal)
    (a2 : (⟨4, ![2, 8, 28, 128]⟩ : Shape).Idx → EReal) (a3 : (⟨4, ![2, 1024, 4, 128]⟩ : Shape).Idx → BitVec 8)
    (a4 : (⟨3, ![2, 32, 4]⟩ : Shape).Idx → EReal) (a5 : (⟨4, ![2, 1024, 4, 128]⟩ : Shape).Idx → EReal)
    (a6 : (⟨3, ![2, 4, 128]⟩ : Shape).Idx → EReal) (b : Fin 2) (h : Fin 28) : Head where
  q i d := ((a0 (ix4 b i h d)).toInt : ℝ)
  qs u := (a1 (ix3 b u h)).toReal
  qm u d := (a2 (ix4 b u h d)).toReal
  k j d := ((a3 (ix4 b j ⟨h.val / 7, by omega⟩ d)).toInt : ℝ)
  ks u := (a4 (ix3 b u ⟨h.val / 7, by omega⟩)).toReal
  v j d := a5 (ix4 b j ⟨h.val / 7, by omega⟩ d)
  vs d := a6 (ix3 b ⟨h.val / 7, by omega⟩ d)

/-- The natural score, written as the reference writes it, is the base-two score times `log 2`. -/
theorem natural_score (q : Fin 128 → ℝ) (qs : ℝ) (qm k : Fin 128 → ℝ) (ks : ℝ) :
    (((Real.sqrt 128)⁻¹ : ℝ) : EReal) * (ks : EReal) * ((qs : EReal) * ((∑ d, q d * k d : ℝ) : EReal) + ((∑ d, qm d * k d : ℝ) : EReal))
      = ((base2 q qs qm k ks * Real.log 2 : ℝ) : EReal) := by
  have hl : Real.log 2 ≠ 0 := (Real.log_pos (by norm_num)).ne'
  rw [← EReal.coe_mul, ← EReal.coe_mul, ← EReal.coe_add, ← EReal.coe_mul]
  congr 1
  unfold base2 κ
  generalize ∑ d, q d * k d = A
  generalize ∑ d, qm d * k d = C
  field_simp
  try ring

/-- The greatest element of a row of scores, found by a fold from the bottom, bounds them all, -/
theorem le_fold_max (f : Fin 1024 → EReal) (j : Fin 1024) : f j ≤ Finset.univ.fold max ⊥ f :=
  (Finset.le_fold_max _).mpr (.inr ⟨j, Finset.mem_univ _, le_rfl⟩)

/-- and is one of them. -/
theorem exists_fold_max (f : Fin 1024 → EReal) : ∃ j, Finset.univ.fold max ⊥ f = f j := by
  rcases (Finset.le_fold_max (f := f) (b := (⊥ : EReal)) (s := Finset.univ) (Finset.univ.fold max ⊥ f)).mp le_rfl with h | ⟨j, _, h⟩
  · have h0 := le_bot_iff.mp h
    exact ⟨0, le_antisymm (h.trans bot_le) (le_fold_max f 0)⟩
  · exact ⟨j, le_antisymm h (le_fold_max f j)⟩

/-! ## The constants both programs print -/

theorem ofBits_256 : Ideal.ofBits .f32 0x43800000#32 = 256 := by
  rw [show (256 : EReal) = ((256 : ℝ) : EReal) by norm_cast]
  simp [Ideal.ofBits, Ideal.ieee, -EReal.coe_mul]; norm_num

theorem ofBits_448 : Ideal.ofBits .f32 0x43E00000#32 = 448 := by
  rw [show (448 : EReal) = ((448 : ℝ) : EReal) by norm_cast]
  simp [Ideal.ofBits, Ideal.ieee, -EReal.coe_mul]; norm_num

theorem ofBits_inv256 : Ideal.ofBits .f32 0x3B800000#32 = ((1 / 256 : ℝ) : EReal) := by
  simp [Ideal.ofBits, Ideal.ieee, -EReal.coe_mul]; norm_num

theorem ofBits_bot : Ideal.ofBits .f32 0xFF800000#32 = ⊥ := by
  simp [Ideal.ofBits, Ideal.ieee]

theorem ofBits_top : Ideal.ofBits .f32 0x7F800000#32 = ⊤ := by
  simp [Ideal.ofBits, Ideal.ieee]

theorem ofBits_top_bf16 : Ideal.ofBits .bf16 0x7F80#16 = ⊤ := by
  simp [Ideal.ofBits, Ideal.ieee]

/-- The reference's comparison of two positions, as a comparison of numbers. -/
theorem cmpi_sle {a b : ℕ} (ha : a < 1024) (hb : b < 1024) :
    IntOp.cmpi .sle (BitVec.ofNat 32 a) (BitVec.ofNat 32 b) = if a ≤ b then 1#1 else 0#1 := by
  have h : (BitVec.ofNat 32 a).sle (BitVec.ofNat 32 b) = decide (a ≤ b) := by
    rw [BitVec.sle_eq_decide]
    have e (n : ℕ) (hn : n < 1024) : (BitVec.ofNat 32 n).toInt = n := by
      rw [BitVec.toInt_eq_toNat_of_lt] <;> simp only [BitVec.toNat_ofNat] <;> omega
    rw [e a ha, e b hb]
    simp
  simp only [IntOp.cmpi, h]
  by_cases hab : a ≤ b <;> simp [hab]

/-- A score kept up to the diagonal. -/
theorem select_score (s : Fin 1024 → ℝ) (i j : Fin 1024) (l : ℝ) (x : EReal) (hx : x = ((s j * l : ℝ) : EReal)) :
    Scalar.select (IntOp.cmpi .sle (BitVec.ofNat 32 j.val) (BitVec.ofNat 32 i.val)) x ⊥ = Softmax.score s i.val l j := by
  rw [cmpi_sle j.isLt i.isLt, hx]
  unfold Softmax.score Scalar.select
  by_cases h : j.val ≤ i.val <;> simp [h]

end Cert.Proof.Spec

end
-- ==== Proof.Tile.lean ====
/- One tile of the kernel's first pass: 128 queries of one head against 128 keys. Read at an index, the tile is the weight of
   the head's score. -/
module

public import Idealize.ShloMosaic.Lib.Pointwise
public import proofs.«01_k».proof.Proof.Spec
public import proofs.«01_k».proof.Proof.Gen.KernelIdeal

@[expose] public section

set_option maxRecDepth 16384

noncomputable section

namespace Cert.Proof.KernelIdeal

open Cert.KernelIdeal Cert.KernelIdeal.Gen Idealize.ShloMosaic
open Cert.Proof.Spec Cert.Proof.Softmax

/-- Position `i` of the `m`-th block of 128. -/
def row (m : ℕ) (i : ℕ) : Fin 1024 := Fin.ofNat 1024 (128 * m + i)

theorem row_val {m i : ℕ} (hm : m < 8) (hi : i < 128) : (row m i).val = 128 * m + i := by
  simp only [row, Fin.val_ofNat]; omega

/-- The `u`-th of the 32 blocks of 32 tokens, and of the 8 of 128. -/
def tk (u : ℕ) : Fin 32 := Fin.ofNat 32 u
def bk (u : ℕ) : Fin 8 := Fin.ofNat 8 u

variable (H : Head)

/-- The products of a tile's query and key codes, -/
def IsDot (m kt : ℕ) (a : FVec Ideal S128x128 .f32) : Prop :=
  ∀ i j : Fin 128, a (ix2 i j) = ((∑ d, H.q (row m i) d * H.k (row kt j) d : ℝ) : EReal)

/-- and its weights, unnormalised. -/
def IsTile (m kt : ℕ) (e : FVec Ideal S128x128 .f32) : Prop :=
  ∀ i j : Fin 128, e (ix2 i j) = ((w (H.score (row m i)) (row m i).val (row kt j) : ℝ) : EReal)

variable {H}

theorem dot_full {m kt : ℕ} (q : FVec Ideal S128x128 .bf16) (k : FVec Ideal S128x128 .bf16)
    (hq : ∀ i d : Fin 128, q (ix2 i d) = (H.q (row m i) d : EReal)) (hk : ∀ j d : Fin 128, k (ix2 j d) = (H.k (row kt j) d : EReal)) :
    IsDot H m kt (matmul dot_S128x128_S128x128_S128x128_1_1_0_0_n_n none q k (constant S128x128 FTy.f32 0x00000000#32)) := by
  intro i j
  pointwise []
  simp only [hq, hk, ← EReal.coe_mul, sum_coe]

theorem dot_lo {m kt : ℕ} (q : FVec Ideal S128x128 .bf16) (k : FVec Ideal S256x128 .bf16)
    (hq : ∀ i d : Fin 128, q (ix2 i d) = (H.q (row m i) d : EReal)) (hk : ∀ (j : Fin 256) (d : Fin 128), k (ix2 j d) = (H.k (row kt j) d : EReal)) :
    IsDot H m kt (extractStridedSlice S128x128 ![0, 0]
      (matmul dot_S128x128_S256x128_S128x256_1_1_0_0_n_n none q k (constant S128x256 FTy.f32 0x00000000#32)) slices_S128x256_o0_0_S128x128) := by
  intro i j
  pointwise []
  simp only [hq, hk, ← EReal.coe_mul, sum_coe]

theorem dot_hi {m kt : ℕ} (q : FVec Ideal S128x128 .bf16) (k : FVec Ideal S256x128 .bf16)
    (hq : ∀ i d : Fin 128, q (ix2 i d) = (H.q (row m i) d : EReal)) (hk : ∀ (j : Fin 256) (d : Fin 128), k (ix2 j d) = (H.k (row kt j) d : EReal)) :
    IsDot H m (kt + 1) (extractStridedSlice S128x128 ![0, 128]
      (matmul dot_S128x128_S256x128_S128x256_1_1_0_0_n_n none q k (constant S128x256 FTy.f32 0x00000000#32)) slices_S128x256_o0_128_S128x128) := by
  intro i j
  pointwise []
  simp only [hq, hk, ← EReal.coe_mul, sum_coe]
  have e : row kt (128 + j.val) = row (kt + 1) j.val := by
    unfold row
    congr 1
    omega
  rw [e]

section
variable {m kt : ℕ} (hm : m < 8) (a : FVec Ideal S128x128 .f32) (x0 x1 x2 x3 ks b : FVec Ideal S1x128 .f32)
  (ha : IsDot H m kt a)
  (h0 : ∀ j, x0 (ix2 0 j) = (H.qs (tk (4 * m)) : EReal)) (h1 : ∀ j, x1 (ix2 0 j) = (H.qs (tk (4 * m + 1)) : EReal))
  (h2 : ∀ j, x2 (ix2 0 j) = (H.qs (tk (4 * m + 2)) : EReal)) (h3 : ∀ j, x3 (ix2 0 j) = (H.qs (tk (4 * m + 3)) : EReal))
  (hks : ∀ j : Fin 128, ks (ix2 0 j) = ((H.ks (tok (row kt j)) * Spec.κ : ℝ) : EReal))
  (hb : ∀ j : Fin 128, b (ix2 0 j) = (((∑ d, H.qm (bk m) d * H.k (row kt j) d) * (H.ks (tok (row kt j)) * Spec.κ) : ℝ) : EReal))

/-- The tile's exponentials of base two, its four groups of 32 queries put together. -/
abbrev tileExp : FVec Ideal S128x128 .f32 :=
  exp2 (concatenate S128x128 0
    [⟨S32x128, addf (mulf (extractStridedSlice S32x128 ![0, 0] a slices_S128x128_o0_0_S32x128) (broadcastTo S32x128 (mulf x0 ks) broadcasts_S1x128_S32x128)) (broadcastTo S32x128 b broadcasts_S1x128_S32x128)⟩,
     ⟨S32x128, addf (mulf (extractStridedSlice S32x128 ![32, 0] a slices_S128x128_o32_0_S32x128) (broadcastTo S32x128 (mulf x1 ks) broadcasts_S1x128_S32x128)) (broadcastTo S32x128 b broadcasts_S1x128_S32x128)⟩,
     ⟨S32x128, addf (mulf (extractStridedSlice S32x128 ![64, 0] a slices_S128x128_o64_0_S32x128) (broadcastTo S32x128 (mulf x2 ks) broadcasts_S1x128_S32x128)) (broadcastTo S32x128 b broadcasts_S1x128_S32x128)⟩,
     ⟨S32x128, addf (mulf (extractStridedSlice S32x128 ![96, 0] a slices_S128x128_o96_0_S32x128) (broadcastTo S32x128 (mulf x3 ks) broadcasts_S1x128_S32x128)) (broadcastTo S32x128 b broadcasts_S1x128_S32x128)⟩]
    concatenates_S32x128_S32x128_S32x128_S32x128_S128x128_d0)

include hm ha h0 h1 h2 h3 hks hb in
theorem tileExp_eq (i j : Fin 128) : tileExp a x0 x1 x2 x3 ks b (ix2 i j) = (((2 : ℝ) ^ H.score (row m i) (row kt j) : ℝ) : EReal) := by
  have hi := row_val hm i.isLt
  have key (u : ℕ) (hu : 4 * m + u = (row m i).val / 32) (x : FVec Ideal S1x128 .f32) (hx : ∀ j, x (ix2 0 j) = (H.qs (tk (4 * m + u)) : EReal)) :
      Ideal.exp2 (a (ix2 i j) * (x (ix2 0 j) * ks (ix2 0 j)) + b (ix2 0 j)) = (((2 : ℝ) ^ H.score (row m i) (row kt j) : ℝ) : EReal) := by
    rw [ha, hx, hks, hb, ← EReal.coe_mul, ← EReal.coe_mul, ← EReal.coe_add, Ideal.exp2_coe]
    have e1 : tk (4 * m + u) = tok (row m i) := Fin.ext (by simp only [tk, tok, Fin.val_ofNat]; omega)
    have e2 : bk m = blk (row m i) := Fin.ext (by simp only [bk, blk, Fin.val_ofNat]; omega)
    rw [e1, e2]
    rfl
  unfold tileExp
  pointwise []
  show Ideal.exp2 _ = _
  split
  · exact key 0 (by omega) x0 h0
  · split
    · have e : (⟨32 + (i.val - 32), by omega⟩ : Fin 128) = i := Fin.ext (by simp only []; omega)
      rw [e]
      exact key 1 (by omega) x1 h1
    · split
      · have e : (⟨64 + (i.val - 32 - 32), by omega⟩ : Fin 128) = i := Fin.ext (by simp only []; omega)
        rw [e]
        exact key 2 (by omega) x2 h2
      · have e : (⟨96 + (i.val - 32 - 32 - 32), by omega⟩ : Fin 128) = i := Fin.ext (by simp only []; omega)
        rw [e]
        exact key 3 (by omega) x3 h3

include hm ha h0 h1 h2 h3 hks hb in
theorem tile_open (h : kt < m) : IsTile H m kt (tileExp a x0 x1 x2 x3 ks b) := by
  intro i j
  rw [tileExp_eq hm a x0 x1 x2 x3 ks b ha h0 h1 h2 h3 hks hb, w, if_pos]
  rw [row_val hm i.isLt, row_val (by omega) j.isLt]
  omega
end

section
variable {m : ℕ} (hm : m < 8) (a : FVec Ideal S128x128 .f32) (x0 x1 x2 x3 ks b : FVec Ideal S1x128 .f32)
  (ha : IsDot H m m a)
  (h0 : ∀ j, x0 (ix2 0 j) = (H.qs (tk (4 * m)) : EReal)) (h1 : ∀ j, x1 (ix2 0 j) = (H.qs (tk (4 * m + 1)) : EReal))
  (h2 : ∀ j, x2 (ix2 0 j) = (H.qs (tk (4 * m + 2)) : EReal)) (h3 : ∀ j, x3 (ix2 0 j) = (H.qs (tk (4 * m + 3)) : EReal))
  (hks : ∀ j : Fin 128, ks (ix2 0 j) = ((H.ks (tok (row m j)) * Spec.κ : ℝ) : EReal))
  (hb : ∀ j : Fin 128, b (ix2 0 j) = (((∑ d, H.qm (bk m) d * H.k (row m j) d) * (H.ks (tok (row m j)) * Spec.κ) : ℝ) : EReal))

include hm ha h0 h1 h2 h3 hks hb in
theorem tile_diag : IsTile H m m (select (cmpi .sge (iota .tc S128x128 32 [0] iota_S128x128_d0_w32) (iota .tc S128x128 32 [1] iota_S128x128_d1_w32))
    (tileExp a x0 x1 x2 x3 ks b) (broadcast S128x128 (FloatOps.ofBits FTy.f32 0x00000000#32))) := by
  intro i j
  have he := tileExp_eq hm a x0 x1 x2 x3 ks b ha h0 h1 h2 h3 hks hb i j
  generalize tileExp a x0 x1 x2 x3 ks b = e at he
  pointwise []
  rw [he]
  have hc : IntOp.cmpi CmpIPredicate.sge (BitVec.ofNat 32 i.val) (BitVec.ofNat 32 j.val) = if j.val ≤ i.val then 1#1 else 0#1 :=
    cmpi_sle (by omega) (by omega)
  rw [hc, w, row_val hm i.isLt, row_val hm j.isLt]
  unfold Scalar.select
  by_cases h : j.val ≤ i.val <;> simp [h]
end

end Cert.Proof.KernelIdeal

end
-- ==== Proof.Item.lean ====
/- One item of the kernel's first pass: 128 queries of one head against every key up to the diagonal, from its tiles. -/
module

public import Idealize.ShloMosaic.Lib.Pipeline.ReadBack
public import Idealize.ShloMosaic.Lib.Pipeline.ValueKit
public import proofs.«01_k».proof.Proof.Tile

@[expose] public section

set_option maxRecDepth 16384

noncomputable section

namespace Cert.Proof.KernelIdeal

open Cert.KernelIdeal Cert.KernelIdeal.Gen Idealize.ShloMosaic
open Cert.Proof.Spec Cert.Proof.Softmax

/-- Where a unit-stride box of a matrix puts its index, -/
theorem emb2 {p q a b r s : ℕ} (inb : ∀ k, (![r, s] : Fin 2 → ℕ) k + (![a, b] : Fin 2 → ℕ) k ≤ (⟨2, ![p, q]⟩ : Shape).size k) (i : Fin a) (j : Fin b) :
    (Rect.unit (s := ⟨2, ![p, q]⟩) ![r, s] ![a, b] inb).emb (ix2 i j) =
      ix2 ⟨r + i.val, by have := inb 0; simp at this; omega⟩ ⟨s + j.val, by have := inb 1; simp at this; omega⟩ := by
  funext k
  match k with
  | ⟨0, _⟩ => exact Fin.ext (by simp)
  | ⟨1, _⟩ => exact Fin.ext (by simp)

/-- and of a stack of matrices. -/
theorem emb3 {o p q a b c r s t : ℕ} (inb : ∀ k, (![r, s, t] : Fin 3 → ℕ) k + (![a, b, c] : Fin 3 → ℕ) k ≤ (⟨3, ![o, p, q]⟩ : Shape).size k)
    (i : Fin a) (j : Fin b) (l : Fin c) :
    (Rect.unit (s := ⟨3, ![o, p, q]⟩) ![r, s, t] ![a, b, c] inb).emb (ix3 i j l) =
      ix3 ⟨r + i.val, by have := inb 0; simp at this; omega⟩ ⟨s + j.val, by have := inb 1; simp at this; omega⟩ ⟨t + l.val, by have := inb 2; simp at this; omega⟩ := by
  funext k
  match k with
  | ⟨0, _⟩ => exact Fin.ext (by simp)
  | ⟨1, _⟩ => exact Fin.ext (by simp)
  | ⟨2, _⟩ => exact Fin.ext (by simp)

variable (H : Head)

/-- The running sum of an item's tiles, after `n` of them: lane by lane the sum of the weights; -/
def IsSum (m n : ℕ) (x : FVec Ideal S128x128 .f32) : Prop :=
  ∀ i l : Fin 128, x (ix2 i l) = ((∑ kt ∈ Finset.range n, w (H.score (row m i)) (row m i).val (row kt l) : ℝ) : EReal)

/-- and the buffer of the item's tiles, after `n` of them stored: the weights up to there. -/
def IsBuf (m n : ℕ) (L : List (View.Piece (Elt Ideal) S128x1024 .f32)) : Prop :=
  ∀ (i : Fin 128) (j : Fin 1024), j.val < 128 * n → View.canon L (ix2 i j) = ((w (H.score (row m i)) (row m i).val j : ℝ) : EReal)

variable {H}

theorem sum_one {m : ℕ} (e : FVec Ideal S128x128 .f32) (he : IsTile H m 0 e) : IsSum H m 1 e := by
  intro i l
  rw [he, Finset.sum_range_one]

theorem sum_succ {m n : ℕ} (x e : FVec Ideal S128x128 .f32) (hx : IsSum H m n x) (he : IsTile H m n e) : IsSum H m (n + 1) (addf x e) := by
  intro i l
  show x (ix2 i l) + e (ix2 i l) = _
  rw [hx, he, Finset.sum_range_succ, EReal.coe_add]

theorem buf_zero (m : ℕ) (L : List (View.Piece (Elt Ideal) S128x1024 .f32)) : IsBuf H m 0 L :=
  fun _ _ h => absurd h (by omega)

theorem buf_succ {m n : ℕ} (o : ℕ) (ho : o = 128 * n) (inb : ∀ k, (![0, o] : Fin 2 → ℕ) k + S128x128.size k ≤ S128x1024.size k) (e : FVec Ideal S128x128 .f32)
    (L : List (View.Piece (Elt Ideal) S128x1024 .f32)) (hL : IsBuf H m n L) (he : IsTile H m n e) :
    IsBuf H m (n + 1) (⟨Rect.unit (s := S128x1024) ![0, o] S128x128.size inb, shapeCast S128x128 e (by rfl)⟩ :: L) := by
  subst ho
  have hn : 128 * n + 128 ≤ 1024 := by have := inb 1; simpa using this
  intro i j hj
  by_cases h : j.val < 128 * n
  · rw [View.canon_cons_of_not_mem _ _ ?_, hL i j h]
    rw [Rect.mem_set_unit]
    intro hmem
    have := (hmem 1).1
    have h2 : (ix2 i j : S128x1024.Idx) 1 = j := rfl
    simp at this
    omega
  · have hj' : (ix2 i j : S128x1024.Idx) = (Rect.unit (s := S128x1024) ![0, 128 * n] S128x128.size inb).emb (ix2 i ⟨j.val - 128 * n, by omega⟩) := by
      refine (Eq.trans (emb2 inb _ _) ?_).symm
      congr 1
      · exact Fin.ext (by simp)
      · exact Fin.ext (by simp; omega)
    rw [hj', View.canon_cons_emb]
    have hs : shapeCast S128x128 e (by rfl) (ix2 i ⟨j.val - 128 * n, by omega⟩) = e (ix2 i ⟨j.val - 128 * n, by omega⟩) := by pointwise []
    refine hs.trans ((he _ _).trans ?_)
    have : row n (j.val - 128 * n) = j := Fin.ext (by rw [row_val (by omega) (by omega)]; omega)
    rw [this]

/-- A sum over the positions, block by block. -/
theorem sum_blocks (f : Fin 1024 → ℝ) {n : ℕ} (hn : n ≤ 8) (hf : ∀ j : Fin 1024, 128 * n ≤ j.val → f j = 0) :
    ∑ l : Fin 128, ∑ kt ∈ Finset.range n, f (row kt l) = ∑ j, f j := by
  rw [Finset.sum_comm]
  have h8 : ∑ j : Fin 1024, f j = ∑ kt ∈ Finset.range 8, ∑ l : Fin 128, f (row kt l) := by
    rw [Finset.sum_range, ← Finset.sum_product', Finset.univ_product_univ]
    refine (Fintype.sum_equiv (finProdFinEquiv (m := 8) (n := 128)) _ _ fun x => ?_).symm
    congr 1
    refine Fin.ext ?_
    rw [row_val x.1.isLt x.2.isLt]
    simp [finProdFinEquiv]
    omega
  rw [h8]
  refine Finset.sum_subset (fun a ha => Finset.mem_range.mpr (by have := Finset.mem_range.mp ha; omega)) fun a ha hna => ?_
  refine Finset.sum_eq_zero fun l _ => hf _ ?_
  rw [row_val (Finset.mem_range.mp ha) l.isLt]
  have := Finset.mem_range.not.mp hna
  omega

/-- A sum over the first `N` positions is the sum over all, where the rest are zero. -/
theorem sum_first {N : ℕ} (hN : N ≤ 1024) (g : Fin 1024 → EReal) (hg : ∀ j : Fin 1024, N ≤ j.val → g j = 0) :
    ∑ j : Fin N, g (Fin.castLE hN j) = ∑ j, g j := by
  have hs := Finset.sum_map Finset.univ (Fin.castLEEmb hN) g
  rw [show (∑ j : Fin N, g (Fin.castLE hN j)) = ∑ j ∈ Finset.univ.map (Fin.castLEEmb hN), g j from hs.symm]
  refine Finset.sum_subset (Finset.subset_univ _) fun j _ hj => hg j ?_
  by_contra h
  exact hj (Finset.mem_map.mpr ⟨⟨j.val, by omega⟩, Finset.mem_univ _, Fin.ext rfl⟩)

section
variable {m N : ℕ} (hm : m < 8) (hN : N = 128 * (m + 1))

include hm hN in
/-- An item's result, from its running sum and its buffer's weights. -/
theorem item_out (x : FVec Ideal S128x128 .f32) (hx : IsSum H m (m + 1) x) (E : FVec Ideal ⟨2, ![128, N]⟩ .f32)
    (hE : ∀ (i : Fin 128) (j : Fin N), E (ix2 i j) = ((w (H.score (row m i)) (row m i).val ⟨j.val, by omega⟩ : ℝ) : EReal))
    (v : FVec Ideal ⟨2, ![N, 128]⟩ .fp8e4m3) (hv : ∀ (j : Fin N) (d : Fin 128), v (ix2 j d) = H.v ⟨j.val, by omega⟩ d)
    (vf : FVec Ideal S1x128 .f32) (hvf : ∀ d : Fin 128, vf (ix2 0 d) = H.vs d * ((1 / 256 : ℝ) : EReal))
    (mm : FVec Ideal ⟨2, ![128, N]⟩ .fp8e4m3 → FVec Ideal ⟨2, ![N, 128]⟩ .fp8e4m3 → FVec Ideal S128x128 .f32)
    (hmm : ∀ p v i d, mm p v (ix2 i d) = ∑ j : Fin N, p (ix2 i j) * v (ix2 j d))
    (hb : (⟨2, ![128, 1]⟩ : Shape).Broadcasts ⟨2, ![128, N]⟩) (i d : Fin 128) :
    truncf .bf16 (mulf (mm (truncf .fp8e4m3 (minimumf (broadcast ⟨2, ![128, N]⟩ (FloatOps.ofBits .f32 0x43E00000#32)) (maximumf (broadcast ⟨2, ![128, N]⟩ (FloatOps.ofBits .f32 0x00000000#32))
      (mulf E (broadcastTo ⟨2, ![128, N]⟩ (divf (broadcast S128x1 (FloatOps.ofBits .f32 0x43800000#32))
        (shapeCast S128x1 (multiReduction .add [1] S128 x 0x00000000#32 reduces_S128x128_S128 (.inl rfl) rfl) shapeCasts_S128_S128x1)) hb)))) (by decide)) v)
      (broadcastTo S128x128 vf broadcasts_S1x128_S128x128)) (by decide) (ix2 i d) = H.out (row m i) d := by
  pointwise [hmm]
  have hz (j : Fin 1024) (hj : 128 * (m + 1) ≤ j.val) : w (H.score (row m i)) (row m i).val j = 0 := by
    rw [w, if_neg]
    rw [row_val hm i.isLt]
    omega
  have hsum : ∑ l, x (ix2 i l) = ((∑ j, w (H.score (row m i)) (row m i).val j : ℝ) : EReal) := by
    simp only [hx i]
    rw [sum_coe, sum_blocks _ (by omega) hz]
  rw [hsum, hvf, Head.out, ofBits_448, ofBits_256, ← sum_first (N := N) (by omega) _ fun j hj => ?_]
  · congr 1
    refine Finset.sum_congr rfl fun j _ => ?_
    rw [hE, hv, ← prob_plain, sum_coe]
    show min _ (max _ _) * _ = min (max _ _) _ * _
    rw [min_comm, max_comm]
    rfl
  · rw [prob_masked _ _ _ (by rw [row_val hm i.isLt]; omega), zero_mul]
end

end Cert.Proof.KernelIdeal

end
-- ==== Proof.Setup.lean ====
/- What the kernel's scratch buffers hold once its body has set them up: the key codes, the key scales times the score's
   factor along a row, the query scales along columns, and the mean's term of the scores. -/
module

public import proofs.«01_k».proof.Proof.BodyI
public import proofs.«01_k».proof.Proof.Item

@[expose] public section

set_option maxRecDepth 16384

noncomputable section

namespace Cert.Proof.KernelIdeal

open Cert.KernelIdeal Cert.KernelIdeal.Gen Idealize.ShloMosaic Idealize.ShloMosaic.TcCoe
open Cert.Proof.Spec Cert.Proof.Softmax

/-- Writes laid one over another read the value they all agree on: the last write where it lies, the earlier ones off it. -/
theorem canon_step {s : Shape} {e : EltTy} (G : s.Idx → Elt Ideal e) (r : Rect s) (x : r.shape.Idx → Elt Ideal e) (L : List (View.Piece (Elt Ideal) s e)) (y : s.Idx)
    (hx : ∀ j, x j = G (r.emb j)) (hL : y ∉ r.set → View.canon L y = G y) : View.canon (⟨r, x⟩ :: L) y = G y := by
  by_cases h : y ∈ r.set
  · obtain ⟨j, rfl⟩ : ∃ j, r.emb j = y := by
      choose j hj he using r.mem_set.mp h
      exact ⟨fun a => ⟨j a, hj a⟩, funext fun a => Fin.ext (he a).symm⟩
    rw [View.canon_cons_emb, hx]
  · rw [View.canon_cons_of_not_mem _ _ h, hL h]

variable {c : Dev nD} {i : grid0.Coords}
    {M2 : Memref sig .tc .vmem S1x7x1024x128 .i8} {M3 : Memref sig .tc .vmem S28x2x32 .f32} {M4 : Memref sig .tc .vmem S1x7x8x128 .bf16}
    {M5 : Memref sig .tc .vmem S1x1x1024x128 .i8} {M6 : Memref sig .tc .vmem S1x1x1x32 .f32} {M7 : Memref sig .tc .vmem S1x1x1024x128 .fp8e4m3}
    {M8 : Memref sig .tc .vmem S1x1x128 .f32} (M10 : Memref sig .tc .vmem S1024x128 .bf16) (M11 : Memref sig .tc .vmem S32x128 .f32)
    (M12 : Memref sig .tc .vmem S1x1024 .f32) (M13 : Memref sig .tc .vmem S7x32x128 .f32) (M14 : Memref sig .tc .vmem S7x8x1024 .f32)
    {f2 : Bf (F := Ideal) c M2} {f3 : Bf (F := Ideal) c M3} {f4 : Bf (F := Ideal) c M4} {f5 : Bf (F := Ideal) c M5} {f6 : Bf (F := Ideal) c M6}
    {f7 : Bf (F := Ideal) c M7} {f8 : Bf (F := Ideal) c M8}

/-- The body's operands hold the seven heads' numbers. -/
structure Reads (i : grid0.Coords) (f2 : Bf (F := Ideal) c M2) (f3 : Bf (F := Ideal) c M3) (f4 : Bf (F := Ideal) c M4) (f5 : Bf (F := Ideal) c M5)
    (f6 : Bf (F := Ideal) c M6) (f7 : Bf (F := Ideal) c M7) (f8 : Bf (F := Ideal) c M8) (H : Fin 7 → Head) : Prop where
  q : ∀ r i d, (((M2.view.read (Elt Ideal) f2 (ix4 0 r i d) : BitVec 8).toInt : ℝ)) = (H r).q i d
  qs : ∀ (r : Fin 7) (u : Fin 32), M3.view.read (Elt Ideal) f3 ((Rect.unit (s := S28x2x32) (k0_off1 i (BitVec.ofNat 32 r.val)) S1x1x32.size (Gen.k0_off1_inb i r)).toLoadRect.idx (ix3 0 0 u)) = ((H r).qs u : EReal)
  qm : ∀ r u d, M4.view.read (Elt Ideal) f4 (ix4 0 r u d) = ((H r).qm u d : EReal)
  k : ∀ r j d, (((M5.view.read (Elt Ideal) f5 (ix4 0 0 j d) : BitVec 8).toInt : ℝ)) = (H r).k j d
  ks : ∀ r u, M6.view.read (Elt Ideal) f6 (ix4 0 0 0 u) = ((H r).ks u : EReal)
  v : ∀ r j d, M7.view.read (Elt Ideal) f7 (ix4 0 0 j d) = (H r).v j d
  vs : ∀ r d, M8.view.read (Elt Ideal) f8 (ix3 0 0 d) = (H r).vs d

variable {H : Fin 7 → Head} (R : Reads i f2 f3 f4 f5 f6 f7 f8 H)

theorem named_factor : (Named.named Cert.KernelIdeal.κ "score_factor" 0x3E0293EE#32 : Ideal .f32) = ((Spec.κ : ℝ) : EReal) :=
  IdealRules.named_const.ideal_named_scalar _ _ _ _ rfl

theorem code_real (b : BitVec 8) : FloatOps.sitofp (F := Ideal) FTy.bf16 b = (((b.toInt : ℝ)) : EReal) := rfl

/-- A load through a unit-stride box reads at the box's corner plus the index: along four axes, -/
theorem at4 {κ' : Kind} {sp : Space} {e : EltTy} {n o p q a b c' d r s t u : ℕ} (V : View sig κ' sp ⟨4, ![n, o, p, q]⟩ e) (f : V.ty.Contents (Elt Ideal))
    (inb : ∀ k, (![r, s, t, u] : Fin 4 → ℕ) k + (![a, b, c', d] : Fin 4 → ℕ) k ≤ (⟨4, ![n, o, p, q]⟩ : Shape).size k)
    (i : Fin a) (j : Fin b) (k : Fin c') (l : Fin d) (i' : Fin n) (j' : Fin o) (k' : Fin p) (l' : Fin q)
    (hi : r + i.val = i'.val) (hj : s + j.val = j'.val) (hk : t + k.val = k'.val) (hl : u + l.val = l'.val) :
    V.readAt (Elt Ideal) (Rect.unit (s := ⟨4, ![n, o, p, q]⟩) ![r, s, t, u] ![a, b, c', d] inb).toLoadRect f (ix4 i j k l) = V.read (Elt Ideal) f (ix4 i' j' k' l') := by
  refine congrArg (V.read (Elt Ideal) f) (funext fun x => ?_)
  match x with
  | ⟨0, _⟩ => exact Fin.ext (by simpa using hi)
  | ⟨1, _⟩ => exact Fin.ext (by simpa using hj)
  | ⟨2, _⟩ => exact Fin.ext (by simpa using hk)
  | ⟨3, _⟩ => exact Fin.ext (by simpa using hl)

/-- along three; -/
theorem at3 {κ' : Kind} {sp : Space} {e : EltTy} {n o p a b c' r s t : ℕ} (V : View sig κ' sp ⟨3, ![n, o, p]⟩ e) (f : V.ty.Contents (Elt Ideal))
    (inb : ∀ k, (![r, s, t] : Fin 3 → ℕ) k + (![a, b, c'] : Fin 3 → ℕ) k ≤ (⟨3, ![n, o, p]⟩ : Shape).size k)
    (i : Fin a) (j : Fin b) (k : Fin c') (i' : Fin n) (j' : Fin o) (k' : Fin p) (hi : r + i.val = i'.val) (hj : s + j.val = j'.val) (hk : t + k.val = k'.val) :
    V.readAt (Elt Ideal) (Rect.unit (s := ⟨3, ![n, o, p]⟩) ![r, s, t] ![a, b, c'] inb).toLoadRect f (ix3 i j k) = V.read (Elt Ideal) f (ix3 i' j' k') := by
  refine congrArg (V.read (Elt Ideal) f) (funext fun x => ?_)
  match x with
  | ⟨0, _⟩ => exact Fin.ext (by simpa using hi)
  | ⟨1, _⟩ => exact Fin.ext (by simpa using hj)
  | ⟨2, _⟩ => exact Fin.ext (by simpa using hk)

/-- and a load of what writes left reads what the writes left there: along three axes, -/
theorem cov3 {κ' : Kind} {sp : Space} {e : EltTy} {n o p a b c' r s t : ℕ} (V : View sig κ' sp ⟨3, ![n, o, p]⟩ e) (L : List (View.Piece (Elt Ideal) ⟨3, ![n, o, p]⟩ e))
    (inb : ∀ k, (![r, s, t] : Fin 3 → ℕ) k + (![a, b, c'] : Fin 3 → ℕ) k ≤ (⟨3, ![n, o, p]⟩ : Shape).size k)
    (i : Fin a) (j : Fin b) (k : Fin c') (i' : Fin n) (j' : Fin o) (k' : Fin p) (hi : r + i.val = i'.val) (hj : s + j.val = j'.val) (hk : t + k.val = k'.val) :
    V.readCov L (Rect.unit (s := ⟨3, ![n, o, p]⟩) ![r, s, t] ![a, b, c'] inb).toLoadRect (ix3 i j k) = View.canon L (ix3 i' j' k') := by
  rw [View.readCov_eq_canon']
  refine congrArg (View.canon L) (funext fun x => ?_)
  match x with
  | ⟨0, _⟩ => exact Fin.ext (by simpa using hi)
  | ⟨1, _⟩ => exact Fin.ext (by simpa using hj)
  | ⟨2, _⟩ => exact Fin.ext (by simpa using hk)

/-- along two. -/
theorem cov2 {κ' : Kind} {sp : Space} {e : EltTy} {n o a b r s : ℕ} (V : View sig κ' sp ⟨2, ![n, o]⟩ e) (L : List (View.Piece (Elt Ideal) ⟨2, ![n, o]⟩ e))
    (inb : ∀ k, (![r, s] : Fin 2 → ℕ) k + (![a, b] : Fin 2 → ℕ) k ≤ (⟨2, ![n, o]⟩ : Shape).size k)
    (i : Fin a) (j : Fin b) (i' : Fin n) (j' : Fin o) (hi : r + i.val = i'.val) (hj : s + j.val = j'.val) :
    V.readCov L (Rect.unit (s := ⟨2, ![n, o]⟩) ![r, s] ![a, b] inb).toLoadRect (ix2 i j) = View.canon L (ix2 i' j') := by
  rw [View.readCov_eq_canon']
  refine congrArg (View.canon L) (funext fun x => ?_)
  match x with
  | ⟨0, _⟩ => exact Fin.ext (by simpa using hi)
  | ⟨1, _⟩ => exact Fin.ext (by simpa using hj)

/-- Summed along a row against the unit matrix, one entry is left. -/
theorem sum_eye (f : Fin 32 → EReal) (u : Fin 32) :
    ∑ x : Fin 32, Scalar.select (IntOp.cmpi CmpIPredicate.eq (BitVec.ofNat 32 u.val) (BitVec.ofNat 32 x.val)) (f x) 0 = f u := by
  have h (x : Fin 32) : Scalar.select (IntOp.cmpi CmpIPredicate.eq (BitVec.ofNat 32 u.val) (BitVec.ofNat 32 x.val)) (f x) 0 = if u = x then f x else 0 := by
    have hc : IntOp.cmpi CmpIPredicate.eq (BitVec.ofNat 32 u.val) (BitVec.ofNat 32 x.val) = if u = x then 1#1 else 0#1 := by
      revert u x; decide +kernel
    rw [hc]
    unfold Scalar.select
    by_cases hux : u = x <;> simp [hux]
  simp only [h, Finset.sum_ite_eq, Finset.mem_univ, if_true]

include R in
theorem keys (r : Fin 7) (j : Fin 1024) (d : Fin 128) : View.canon (kernelRun.sl.H10_1 (F := Ideal) c M5 f5) (ix2 j d) = ((H r).k j d : EReal) := by
  unfold kernelRun.sl.H10_1
  rw [View.canon_cons_unit_lit _ _ _ (by decide)]
  pointwise [k0_pay9]
  rw [code_real, ← R.k r j d, at4 _ _ _ _ _ _ _ 0 0 j d (by simp) (by simp) (by simp) (by simp)]

include R in
theorem key_scales (r : Fin 7) (u : Fin 32) (l : Fin 128) : View.canon (kernelRun.sl.H11_1 (F := Ideal) c M6 f6) (ix2 u l) = (((H r).ks u * Spec.κ : ℝ) : EReal) := by
  unfold kernelRun.sl.H11_1
  rw [View.canon_cons_unit_lit _ _ _ (by decide)]
  pointwise [k0_pay10]
  rw [sum_eye, at4 _ _ _ _ _ _ _ 0 0 0 u (by simp) (by simp) (by simp) (by simp), R.ks r, named_factor, ← EReal.coe_mul]

/-- Along a row, the four key scales of a block of 128. -/
theorem row_select (t0 t1 t2 t3 : FVec Ideal S1x128 .f32) (g : ℕ → ℝ) (n : ℕ) (h0 : ∀ l, t0 (ix2 0 l) = (g (4 * n) : EReal)) (h1 : ∀ l, t1 (ix2 0 l) = (g (4 * n + 1) : EReal))
    (h2 : ∀ l, t2 (ix2 0 l) = (g (4 * n + 2) : EReal)) (h3 : ∀ l, t3 (ix2 0 l) = (g (4 * n + 3) : EReal)) (l : Fin 128) :
    select (cmpi .slt (iota .tc S1x128 32 [1] iota_S1x128_d1_w32) (broadcast S1x128 64#32))
      (select (cmpi .slt (iota .tc S1x128 32 [1] iota_S1x128_d1_w32) (broadcast S1x128 32#32)) t0 t1)
      (select (cmpi .slt (iota .tc S1x128 32 [1] iota_S1x128_d1_w32) (broadcast S1x128 96#32)) t2 t3) (ix2 0 l) = (g (4 * n + l.val / 32) : EReal) := by
  have e64 : IntOp.cmpi CmpIPredicate.slt (BitVec.ofNat 32 l.val) 64#32 = if l.val < 64 then 1#1 else 0#1 := by revert l; decide +kernel
  have e32 : IntOp.cmpi CmpIPredicate.slt (BitVec.ofNat 32 l.val) 32#32 = if l.val < 32 then 1#1 else 0#1 := by revert l; decide +kernel
  have e96 : IntOp.cmpi CmpIPredicate.slt (BitVec.ofNat 32 l.val) 96#32 = if l.val < 96 then 1#1 else 0#1 := by revert l; decide +kernel
  pointwise []
  rw [h0, h1, h2, h3]
  have hl := l.isLt
  rw [e64, e32, e96]
  unfold Scalar.select
  by_cases a : l.val < 64
  · by_cases b : l.val < 32
    · simp [a, b, show l.val / 32 = 0 by omega]
    · simp [a, b, show l.val / 32 = 1 by omega]
  · by_cases b : l.val < 96
    · simp [a, b, show l.val / 32 = 2 by omega]
    · simp [a, b, show l.val / 32 = 3 by omega]

/-- The row of key scales, after `n` blocks of it stored. -/
def IsRow (g : ℕ → ℝ) (n : ℕ) (L : List (View.Piece (Elt Ideal) S1x1024 .f32)) : Prop :=
  ∀ j : Fin 1024, j.val < 128 * n → View.canon L (ix2 0 j) = (g (j.val / 32) : EReal)

theorem row_zero (g : ℕ → ℝ) (L : List (View.Piece (Elt Ideal) S1x1024 .f32)) : IsRow g 0 L := fun _ h => absurd h (by omega)

theorem row_succ {g : ℕ → ℝ} {n : ℕ} (o : ℕ) (ho : o = 128 * n) (inb : ∀ k, (![0, o] : Fin 2 → ℕ) k + S1x128.size k ≤ S1x1024.size k) (e : FVec Ideal S1x128 .f32)
    (L : List (View.Piece (Elt Ideal) S1x1024 .f32)) (he : ∀ l : Fin 128, e (ix2 0 l) = (g (4 * n + l.val / 32) : EReal)) (hL : IsRow g n L) :
    IsRow g (n + 1) (⟨Rect.unit (s := S1x1024) ![0, o] S1x128.size inb, shapeCast S1x128 e (by rfl)⟩ :: L) := by
  subst ho
  intro j hj
  refine canon_step (fun y => (g ((y 1).val / 32) : EReal)) _ _ L (ix2 0 j) ?_ fun hy => hL j ?_
  · intro (z : S1x128.Idx)
    idx_vars z
    have hs : shapeCast S1x128 e (by rfl) (ix2 z0 z1) = e (ix2 z0 z1) := by pointwise []
    refine hs.trans ?_
    rw [Fin.fin_one_eq_zero z0, he, emb2]
    show _ = (g ((128 * n + z1.val) / 32) : EReal)
    rw [show (128 * n + z1.val) / 32 = 4 * n + z1.val / 32 by omega]
  · by_contra h
    refine hy (Rect.mem_set_unit.mpr fun a => ?_)
    match a with
    | ⟨0, _⟩ => exact ⟨by simp, by simp⟩
    | ⟨1, _⟩ => exact ⟨by simpa using h, by simp; omega⟩

include R in
theorem key_row (r : Fin 7) (j : Fin 1024) : View.canon (kernelRun.sl.H12_8 (F := Ideal) c M6 M11 f6) (ix2 0 j) = (((H r).ks (tok j) * Spec.κ : ℝ) : EReal) := by
  have ht (u : ℕ) (inb : ∀ k, (![u, 0] : Fin 2 → ℕ) k + S1x128.size k ≤ S32x128.size k) (l : Fin 128) :
      M11.view.readCov (kernelRun.sl.H11_1 (F := Ideal) c M6 f6) (Rect.unit (s := S32x128) ![u, 0] S1x128.size inb).toLoadRect (ix2 0 l)
        = (((H r).ks (tk u) * Spec.κ : ℝ) : EReal) := by
    have hu : u < 32 := by have := inb 0; simp at this; omega
    rw [← key_scales R r (tk u) l]
    exact cov2 _ _ _ _ _ _ _ (by simp [tk, Nat.mod_eq_of_lt hu]) (by simp)
  have h : IsRow (fun u => (H r).ks (tk u) * Spec.κ) 8 (kernelRun.sl.H12_8 (F := Ideal) c M6 M11 f6) := by
    refine row_succ (n := 7) _ rfl _ _ _ ?_ (row_succ (n := 6) _ rfl _ _ _ ?_ (row_succ (n := 5) _ rfl _ _ _ ?_ (row_succ (n := 4) _ rfl _ _ _ ?_
      (row_succ (n := 3) _ rfl _ _ _ ?_ (row_succ (n := 2) _ rfl _ _ _ ?_ (row_succ (n := 1) _ rfl _ _ _ ?_ (row_succ (n := 0) _ rfl _ _ _ ?_ (row_zero _ _))))))))
    all_goals exact row_select _ _ _ _ (fun u => (H r).ks (tk u) * Spec.κ) _ (ht _ _) (ht _ _) (ht _ _) (ht _ _)
  rw [h j (by omega)]
  show (((H r).ks (tk (j.val / 32)) * Spec.κ : ℝ) : EReal) = _
  rw [show tk (j.val / 32) = tok j from Fin.ext (by simp [tk, tok]; omega)]

/-- The columns of query scales, after `n` heads of them stored; -/
def IsCols (H : Fin 7 → Head) (n : ℕ) (L : List (View.Piece (Elt Ideal) S7x32x128 .f32)) : Prop :=
  ∀ (r : Fin 7) (u : Fin 32) (l : Fin 128), r.val < n → View.canon L (ix3 r u l) = ((H r).qs u : EReal)

theorem cols_succ (r : Fin 7) (o : ℕ) (ho : o = r.val) (inb : ∀ k, (![o, 0, 0] : Fin 3 → ℕ) k + S1x32x128.size k ≤ S7x32x128.size k) (e : FVec Ideal S32x128 .f32)
    (L : List (View.Piece (Elt Ideal) S7x32x128 .f32)) (he : ∀ u l, e (ix2 u l) = ((H r).qs u : EReal)) (hL : IsCols H r.val L) :
    IsCols H (r.val + 1) (⟨Rect.unit (s := S7x32x128) ![o, 0, 0] S1x32x128.size inb, shapeCast S1x32x128 e shapeCasts_S32x128_S1x32x128⟩ :: L) := by
  subst ho
  intro r' u l hr
  refine canon_step (fun y => ((H (y 0)).qs (y 1) : EReal)) _ _ L (ix3 r' u l) ?_ fun hy => hL r' u l ?_
  · intro (z : S1x32x128.Idx)
    idx_vars z
    have hs : shapeCast S1x32x128 e shapeCasts_S32x128_S1x32x128 (ix3 z0 z1 z2) = e (ix2 z1 z2) := by pointwise []
    refine hs.trans ?_
    rw [he, emb3]
    show _ = ((H ⟨r.val + z0.val, _⟩).qs ⟨0 + z1.val, _⟩ : EReal)
    congr 2
    · congr 1; exact Fin.ext (by simp)
    · exact Fin.ext (by simp)
  · by_contra h
    refine hy (Rect.mem_set_unit.mpr fun a => ?_)
    match a with
    | ⟨0, _⟩ => exact ⟨by simp; omega, by simp; omega⟩
    | ⟨1, _⟩ => exact ⟨by simp, by simp⟩
    | ⟨2, _⟩ => exact ⟨by simp, by simp⟩

/-- and the means' terms. -/
def IsBias (H : Fin 7 → Head) (n : ℕ) (L : List (View.Piece (Elt Ideal) S7x8x1024 .f32)) : Prop :=
  ∀ (r : Fin 7) (m : Fin 8) (j : Fin 1024), r.val < n →
    View.canon L (ix3 r m j) = (((∑ d, (H r).qm m d * (H r).k j d) * ((H r).ks (tok j) * Spec.κ) : ℝ) : EReal)

theorem bias_succ (r : Fin 7) (o : ℕ) (ho : o = r.val) (inb : ∀ k, (![o, 0, 0] : Fin 3 → ℕ) k + S1x8x1024.size k ≤ S7x8x1024.size k) (e : FVec Ideal S8x1024 .f32)
    (L : List (View.Piece (Elt Ideal) S7x8x1024 .f32)) (he : ∀ m j, e (ix2 m j) = (((∑ d, (H r).qm m d * (H r).k j d) * ((H r).ks (tok j) * Spec.κ) : ℝ) : EReal)) (hL : IsBias H r.val L) :
    IsBias H (r.val + 1) (⟨Rect.unit (s := S7x8x1024) ![o, 0, 0] S1x8x1024.size inb, shapeCast S1x8x1024 e shapeCasts_S8x1024_S1x8x1024⟩ :: L) := by
  subst ho
  intro r' m j hr
  refine canon_step (fun y => (((∑ d, (H (y 0)).qm (y 1) d * (H (y 0)).k (y 2) d) * ((H (y 0)).ks (tok (y 2)) * Spec.κ) : ℝ) : EReal)) _ _ L (ix3 r' m j) ?_ fun hy => hL r' m j ?_
  · intro (z : S1x8x1024.Idx)
    idx_vars z
    have hs : shapeCast S1x8x1024 e shapeCasts_S8x1024_S1x8x1024 (ix3 z0 z1 z2) = e (ix2 z1 z2) := by pointwise []
    refine hs.trans ?_
    have e0 : (⟨r.val + z0.val, by omega⟩ : Fin 7) = r := Fin.ext (by simp)
    have e1 : (⟨0 + z1.val, by omega⟩ : Fin 8) = z1 := Fin.ext (by simp)
    have e2 : (⟨0 + z2.val, by omega⟩ : Fin 1024) = z2 := Fin.ext (by simp)
    rw [he, emb3]
    show _ = (((∑ d, (H ⟨r.val + z0.val, _⟩).qm ⟨0 + z1.val, _⟩ d * (H ⟨r.val + z0.val, _⟩).k ⟨0 + z2.val, _⟩ d) * ((H ⟨r.val + z0.val, _⟩).ks (tok ⟨0 + z2.val, _⟩) * Spec.κ) : ℝ) : EReal)
    rw [e0, e1, e2]
  · by_contra h
    refine hy (Rect.mem_set_unit.mpr fun a => ?_)
    match a with
    | ⟨0, _⟩ => exact ⟨by simp; omega, by simp; omega⟩
    | ⟨1, _⟩ => exact ⟨by simp, by simp⟩
    | ⟨2, _⟩ => exact ⟨by simp, by simp⟩

include R in
theorem query_cols : IsCols H 7 (kernelRun.sl.H13_7 (F := Ideal) c i M3 f3) := by
  have hp (r : Fin 7) (u : Fin 32) (l : Fin 128) : broadcastTo S32x128 (shapeCast S32x1 (shapeCast S32x1 (multiReduction (F := Ideal) .add [1] S32
      (select (cmpi .eq (iota .tc S32x32 32 [0] iota_S32x32_d0_w32) (iota .tc S32x32 32 [1] iota_S32x32_d1_w32))
        (broadcastTo S32x32 (shapeCast S1x32 (shapeCast S1x32 (View.readAt (Elt Ideal) M3.view (Rect.unit (s := S28x2x32) (k0_off1 i (BitVec.ofNat 32 r.val)) S1x1x32.size (Gen.k0_off1_inb i r)).toLoadRect f3)
          shapeCasts_S1x1x32_S1x32) shapeCasts_S1x32_S1x32) broadcasts_S1x32_S32x32) (broadcast S32x32 (FloatOps.ofBits .f32 0x00000000#32)))
      0x00000000#32 reduces_S32x32_S32 (.inl rfl) rfl) shapeCasts_S32_S32x1) shapeCasts_S32x1_S32x1) broadcasts_S32x1_S32x128 (ix2 u l) = ((H r).qs u : EReal) := by
    pointwise []
    rw [sum_eye]
    exact R.qs r u
  refine cols_succ 6 _ rfl _ _ _ (hp 6) (cols_succ 5 _ rfl _ _ _ (hp 5) (cols_succ 4 _ rfl _ _ _ (hp 4) (cols_succ 3 _ rfl _ _ _ (hp 3)
    (cols_succ 2 _ rfl _ _ _ (hp 2) (cols_succ 1 _ rfl _ _ _ (hp 1) (cols_succ 0 _ rfl _ _ _ (hp 0) fun _ _ _ h => absurd h (by simp)))))))

/-- The mean's term, from the row of means, the key codes and the row of key scales. -/
theorem bias_op (A : FVec Ideal S1x1x8x128 .bf16) (B : FVec Ideal S1024x128 .bf16) (C : FVec Ideal S1x1024 .f32) (h : Head) (m : Fin 8) (j : Fin 1024)
    (hA : ∀ d, A (ix4 0 0 m d) = (h.qm m d : EReal)) (hB : ∀ d, B (ix2 j d) = (h.k j d : EReal)) (hC : C (ix2 0 j) = ((h.ks (tok j) * Spec.κ : ℝ) : EReal)) :
    mulf (matmul dot_S8x128_S1024x128_S8x1024_1_1_0_0_n_n none (shapeCast S8x128 A shapeCasts_S1x1x8x128_S8x128 : FVec Ideal S8x128 .bf16) B (constant S8x1024 .f32 0x00000000#32))
      (broadcastTo S8x1024 C broadcasts_S1x1024_S8x1024) (ix2 m j) = (((∑ d, h.qm m d * h.k j d) * (h.ks (tok j) * Spec.κ) : ℝ) : EReal) := by
  pointwise []
  rw [hC]
  simp only [hB, hA, ← EReal.coe_mul, sum_coe]

include R in
theorem bias_rows : IsBias H 7 (kernelRun.sl.H14_7 (F := Ideal) c M4 M5 M6 M10 M11 M12 f4 f5 f6) := by
  have hp (r : Fin 7) (o : ℕ) (ho : o = r.val) (inb : ∀ k, (![0, o, 0, 0] : Fin 4 → ℕ) k + S1x1x8x128.size k ≤ S1x7x8x128.size k)
      (inb' : ∀ k, (![0, 0] : Fin 2 → ℕ) k + S1024x128.size k ≤ S1024x128.size k) (inb'' : ∀ k, (![0, 0] : Fin 2 → ℕ) k + S1x1024.size k ≤ S1x1024.size k)
      (m : Fin 8) (j : Fin 1024) : mulf (matmul (φ₁ := .bf16) (φ₂ := .bf16) dot_S8x128_S1024x128_S8x1024_1_1_0_0_n_n none
        (shapeCast S8x128 (View.readAt (Elt Ideal) M4.view (Rect.unit (s := S1x7x8x128) ![0, o, 0, 0] S1x1x8x128.size inb).toLoadRect f4) shapeCasts_S1x1x8x128_S8x128 : FVec Ideal S8x128 .bf16)
        (M10.view.readCov (kernelRun.sl.H10_1 (F := Ideal) c M5 f5) (Rect.unit (s := S1024x128) ![0, 0] S1024x128.size inb').toLoadRect : FVec Ideal S1024x128 .bf16)
        (constant S8x1024 .f32 0x00000000#32))
      (broadcastTo S8x1024 (M12.view.readCov (kernelRun.sl.H12_8 (F := Ideal) c M6 M11 f6) (Rect.unit (s := S1x1024) ![0, 0] S1x1024.size inb'').toLoadRect) broadcasts_S1x1024_S8x1024) (ix2 m j)
        = (((∑ d, (H r).qm m d * (H r).k j d) * ((H r).ks (tok j) * Spec.κ) : ℝ) : EReal) := by
    have hk (d : Fin 128) := (cov2 M10.view (kernelRun.sl.H10_1 (F := Ideal) c M5 f5) inb' j d j d (by simp) (by simp)).trans (keys R r j d)
    have hks := (cov2 M12.view (kernelRun.sl.H12_8 (F := Ideal) c M6 M11 f6) inb'' 0 j 0 j (by simp) (by simp)).trans (key_row M11 R r j)
    have hqm (d : Fin 128) := (at4 M4.view f4 inb 0 0 m d 0 r m d (by simp) (by simp [ho]) (by simp) (by simp)).trans (R.qm r m d)
    exact bias_op _ _ _ (H r) m j hqm hk hks
  refine bias_succ 6 _ rfl _ _ _ (hp 6 _ rfl _ _ _) (bias_succ 5 _ rfl _ _ _ (hp 5 _ rfl _ _ _) (bias_succ 4 _ rfl _ _ _ (hp 4 _ rfl _ _ _) (bias_succ 3 _ rfl _ _ _ (hp 3 _ rfl _ _ _)
    (bias_succ 2 _ rfl _ _ _ (hp 2 _ rfl _ _ _) (bias_succ 1 _ rfl _ _ _ (hp 1 _ rfl _ _ _) (bias_succ 0 _ rfl _ _ _ (hp 0 _ rfl _ _ _) fun _ _ _ h => absurd h (by simp)))))))

end Cert.Proof.KernelIdeal

end
-- ==== Proof.Items.lean ====
/- The items of the kernel's first pass, from the tables its body sets up: each item's store is a block of the seven heads'
   results, and all of them together are the whole block. -/
module

public import proofs.«01_k».proof.Proof.Setup

@[expose] public section

set_option maxRecDepth 16384

noncomputable section

namespace Cert.Proof.KernelIdeal

open Cert.KernelIdeal Cert.KernelIdeal.Gen Idealize.ShloMosaic Idealize.ShloMosaic.TcCoe
open Cert.Proof.Spec Cert.Proof.Softmax

variable {c : Dev nD}
    {M2 : Memref sig .tc .vmem S1x7x1024x128 .i8} {M7 : Memref sig .tc .vmem S1x1x1024x128 .fp8e4m3}
    {f2 : Bf (F := Ideal) c M2} {f7 : Bf (F := Ideal) c M7}
    {L10 : List (View.Piece (Elt Ideal) S1024x128 .bf16)} {L12 : List (View.Piece (Elt Ideal) S1x1024 .f32)}
    {L13 : List (View.Piece (Elt Ideal) S7x32x128 .f32)} {L14 : List (View.Piece (Elt Ideal) S7x8x1024 .f32)}
    {vf : FVec Ideal S1x128 .f32} {H : Fin 7 → Head}

/-- What the items read: the query codes, the tables, the value codes and the value scales. -/
structure Tables (f2 : Bf (F := Ideal) c M2) (f7 : Bf (F := Ideal) c M7)
    (L10 : List (View.Piece (Elt Ideal) S1024x128 .bf16)) (L12 : List (View.Piece (Elt Ideal) S1x1024 .f32))
    (L13 : List (View.Piece (Elt Ideal) S7x32x128 .f32)) (L14 : List (View.Piece (Elt Ideal) S7x8x1024 .f32))
    (vf : FVec Ideal S1x128 .f32) (H : Fin 7 → Head) : Prop where
  q : ∀ r i d, (((M2.view.read (Elt Ideal) f2 (ix4 0 r i d) : BitVec 8).toInt : ℝ)) = (H r).q i d
  k : ∀ r j d, View.canon L10 (ix2 j d) = ((H r).k j d : EReal)
  ks : ∀ r j, View.canon L12 (ix2 0 j) = (((H r).ks (tok j) * Spec.κ : ℝ) : EReal)
  qs : IsCols H 7 L13
  b : IsBias H 7 L14
  v : ∀ r j d, M7.view.read (Elt Ideal) f7 (ix4 0 0 j d) = (H r).v j d
  vs : ∀ r d, vf (ix2 0 d) = (H r).vs d * ((1 / 256 : ℝ) : EReal)

variable (T : Tables (c := c) (M2 := M2) (M7 := M7) f2 f7 L10 L12 L13 L14 vf H) (r : Fin 7) (m kt : ℕ)
  {κ' : Kind} {sp : Space} (V10 : View sig κ' sp S1024x128 .bf16) (V12 : View sig κ' sp S1x1024 .f32) (V13 : View sig κ' sp S7x32x128 .f32) (V14 : View sig κ' sp S7x8x1024 .f32)

theorem cast_q (x : S1x1x128x128.Idx → BitVec 8) (i d : Fin 128) : shapeCast S128x128 x shapeCasts_S1x1x128x128_S128x128 (ix2 i d) = x (ix4 0 0 i d) := by
  pointwise []

theorem cast_row (x : FVec Ideal S1x1x128 .f32) (j : Fin 128) : shapeCast S1x128 x shapeCasts_S1x1x128_S1x128 (ix2 0 j) = x (ix3 0 0 j) := by
  pointwise []

include T in
theorem q_at (hm : m < 8) (inb : ∀ k, (![0, r.val, 128 * m, 0] : Fin 4 → ℕ) k + S1x1x128x128.size k ≤ S1x7x1024x128.size k) (i d : Fin 128) :
    (sitofp .bf16 (shapeCast S128x128 (View.readAt (Elt Ideal) M2.view (Rect.unit (s := S1x7x1024x128) ![0, r.val, 128 * m, 0] S1x1x128x128.size inb).toLoadRect f2)
      shapeCasts_S1x1x128x128_S128x128) : FVec Ideal S128x128 .bf16) (ix2 i d) = ((H r).q (row m i) d : EReal) := by
  rw [← T.q]
  show FloatOps.sitofp (F := Ideal) FTy.bf16 (shapeCast S128x128 _ _ (ix2 i d)) = _
  rw [cast_q, code_real, at4 _ _ _ _ _ _ _ 0 r (row m i) d (by simp) (by simp) (by rw [row_val hm i.isLt]) (by simp)]

include T in
theorem x_at (u : ℕ) (hu : u < 32) (inb : ∀ k, (![r.val, u, 0] : Fin 3 → ℕ) k + S1x1x128.size k ≤ S7x32x128.size k) (j : Fin 128) :
    shapeCast S1x128 (V13.readCov L13 (Rect.unit (s := S7x32x128) ![r.val, u, 0] S1x1x128.size inb).toLoadRect) shapeCasts_S1x1x128_S1x128 (ix2 0 j)
      = ((H r).qs (tk u) : EReal) := by
  rw [cast_row, cov3 _ _ _ _ _ _ r (tk u) j (by simp) (by simp [tk, Nat.mod_eq_of_lt hu]) (by simp), T.qs r _ _ r.isLt]

include T in
theorem b_at (hm : m < 8) (hk : kt < 8) (inb : ∀ k, (![r.val, m, 128 * kt] : Fin 3 → ℕ) k + S1x1x128.size k ≤ S7x8x1024.size k) (j : Fin 128) :
    shapeCast S1x128 (V14.readCov L14 (Rect.unit (s := S7x8x1024) ![r.val, m, 128 * kt] S1x1x128.size inb).toLoadRect) shapeCasts_S1x1x128_S1x128 (ix2 0 j)
      = (((∑ d, (H r).qm (bk m) d * (H r).k (row kt j) d) * ((H r).ks (tok (row kt j)) * Spec.κ) : ℝ) : EReal) := by
  rw [cast_row, cov3 _ _ _ _ _ _ r (bk m) (row kt j) (by simp) (by simp [bk, Nat.mod_eq_of_lt hm]) (by rw [row_val hk j.isLt]), T.b r _ _ r.isLt]

include T in
theorem ks_at (hk : kt < 8) (inb : ∀ k, (![0, 128 * kt] : Fin 2 → ℕ) k + S1x128.size k ≤ S1x1024.size k) (j : Fin 128) :
    V12.readCov L12 (Rect.unit (s := S1x1024) ![0, 128 * kt] S1x128.size inb).toLoadRect (ix2 0 j) = (((H r).ks (tok (row kt j)) * Spec.κ : ℝ) : EReal) := by
  rw [cov2 _ _ _ _ _ 0 (row kt j) (by simp) (by rw [row_val hk j.isLt]), T.ks r]

include T in
theorem k_at {N : ℕ} (inb : ∀ k, (![128 * kt, 0] : Fin 2 → ℕ) k + (⟨2, ![N, 128]⟩ : Shape).size k ≤ S1024x128.size k) (j : Fin N) (d : Fin 128) :
    V10.readCov L10 (Rect.unit (s := S1024x128) ![128 * kt, 0] (⟨2, ![N, 128]⟩ : Shape).size inb).toLoadRect (ix2 j d) = ((H r).k (row kt j) d : EReal) := by
  have h0 := inb 0
  simp at h0
  rw [cov2 _ _ _ _ _ (row kt j) d (by simp [row]; omega) (by simp), T.k r]

section
variable (hm : m < 8)
  (iq : ∀ k, (![0, r.val, 128 * m, 0] : Fin 4 → ℕ) k + S1x1x128x128.size k ≤ S1x7x1024x128.size k)
  (i0 : ∀ k, (![r.val, 4 * m, 0] : Fin 3 → ℕ) k + S1x1x128.size k ≤ S7x32x128.size k)
  (i1 : ∀ k, (![r.val, 4 * m + 1, 0] : Fin 3 → ℕ) k + S1x1x128.size k ≤ S7x32x128.size k)
  (i2 : ∀ k, (![r.val, 4 * m + 2, 0] : Fin 3 → ℕ) k + S1x1x128.size k ≤ S7x32x128.size k)
  (i3 : ∀ k, (![r.val, 4 * m + 3, 0] : Fin 3 → ℕ) k + S1x1x128.size k ≤ S7x32x128.size k)
  (is : ∀ k, (![0, 128 * kt] : Fin 2 → ℕ) k + S1x128.size k ≤ S1x1024.size k)
  (ib : ∀ k, (![r.val, m, 128 * kt] : Fin 3 → ℕ) k + S1x1x128.size k ≤ S7x8x1024.size k)

/-- A tile's exponentials from what the tables hold. -/
abbrev tileAt (a : FVec Ideal S128x128 .f32) : FVec Ideal S128x128 .f32 :=
  tileExp a (shapeCast S1x128 (V13.readCov L13 (Rect.unit (s := S7x32x128) ![r.val, 4 * m, 0] S1x1x128.size i0).toLoadRect) shapeCasts_S1x1x128_S1x128)
    (shapeCast S1x128 (V13.readCov L13 (Rect.unit (s := S7x32x128) ![r.val, 4 * m + 1, 0] S1x1x128.size i1).toLoadRect) shapeCasts_S1x1x128_S1x128)
    (shapeCast S1x128 (V13.readCov L13 (Rect.unit (s := S7x32x128) ![r.val, 4 * m + 2, 0] S1x1x128.size i2).toLoadRect) shapeCasts_S1x1x128_S1x128)
    (shapeCast S1x128 (V13.readCov L13 (Rect.unit (s := S7x32x128) ![r.val, 4 * m + 3, 0] S1x1x128.size i3).toLoadRect) shapeCasts_S1x1x128_S1x128)
    (V12.readCov L12 (Rect.unit (s := S1x1024) ![0, 128 * kt] S1x128.size is).toLoadRect)
    (shapeCast S1x128 (V14.readCov L14 (Rect.unit (s := S7x8x1024) ![r.val, m, 128 * kt] S1x1x128.size ib).toLoadRect) shapeCasts_S1x1x128_S1x128)

/-- The query codes of a block of positions. -/
abbrev qAt (M2 : Memref sig .tc .vmem S1x7x1024x128 .i8) (f2 : Bf (F := Ideal) c M2) : FVec Ideal S128x128 .bf16 :=
  sitofp .bf16 (shapeCast S128x128 (View.readAt (Elt Ideal) M2.view (Rect.unit (s := S1x7x1024x128) ![0, r.val, 128 * m, 0] S1x1x128x128.size iq).toLoadRect f2)
      shapeCasts_S1x1x128x128_S128x128)

include T hm in
/-- A tile off the diagonal, its products the left half of a pair's, -/
theorem tile_lo (h : kt < m) (ik : ∀ k, (![128 * kt, 0] : Fin 2 → ℕ) k + S256x128.size k ≤ S1024x128.size k) :
    IsTile (H r) m kt (tileAt (L12 := L12) (L13 := L13) (L14 := L14) r m kt V12 V13 V14 i0 i1 i2 i3 is ib (extractStridedSlice S128x128 ![0, 0]
      (matmul (φ₁ := .bf16) (φ₂ := .bf16) dot_S128x128_S256x128_S128x256_1_1_0_0_n_n none (qAt r m iq M2 f2) (V10.readCov L10 (Rect.unit (s := S1024x128) ![128 * kt, 0] S256x128.size ik).toLoadRect : FVec Ideal S256x128 .bf16) (constant S128x256 FTy.f32 0x00000000#32)) slices_S128x256_o0_0_S128x128)) :=
  tile_open hm _ _ _ _ _ _ _ (dot_lo _ _ (q_at T r m hm iq) (k_at T r kt V10 ik)) (x_at T r V13 _ (by omega) i0) (x_at T r V13 _ (by omega) i1)
    (x_at T r V13 _ (by omega) i2) (x_at T r V13 _ (by omega) i3) (ks_at T r kt V12 (by omega) is) (b_at T r m kt V14 hm (by omega) ib) h

include T hm in
/-- the right half, -/
theorem tile_hi (n : ℕ) (hn : n + 1 = kt) (h : kt < m) (ik : ∀ k, (![128 * n, 0] : Fin 2 → ℕ) k + S256x128.size k ≤ S1024x128.size k) :
    IsTile (H r) m kt (tileAt (L12 := L12) (L13 := L13) (L14 := L14) r m kt V12 V13 V14 i0 i1 i2 i3 is ib (extractStridedSlice S128x128 ![0, 128]
      (matmul (φ₁ := .bf16) (φ₂ := .bf16) dot_S128x128_S256x128_S128x256_1_1_0_0_n_n none (qAt r m iq M2 f2) (V10.readCov L10 (Rect.unit (s := S1024x128) ![128 * n, 0] S256x128.size ik).toLoadRect : FVec Ideal S256x128 .bf16) (constant S128x256 FTy.f32 0x00000000#32)) slices_S128x256_o0_128_S128x128)) :=
  tile_open hm _ _ _ _ _ _ _ (hn ▸ dot_hi _ _ (q_at T r m hm iq) (k_at T r n V10 ik)) (x_at T r V13 _ (by omega) i0) (x_at T r V13 _ (by omega) i1)
    (x_at T r V13 _ (by omega) i2) (x_at T r V13 _ (by omega) i3) (ks_at T r kt V12 (by omega) is) (b_at T r m kt V14 hm (by omega) ib) h

/-- Zero above the diagonal of a tile. -/
abbrev masked (e : FVec Ideal S128x128 .f32) : FVec Ideal S128x128 .f32 :=
  select (cmpi .sge (iota .tc S128x128 32 [0] iota_S128x128_d0_w32) (iota .tc S128x128 32 [1] iota_S128x128_d1_w32)) e (broadcast S128x128 (FloatOps.ofBits FTy.f32 0x00000000#32))

include T hm in
/-- and on the diagonal, alone or -/
theorem tile_last (h : kt = m) (ik : ∀ k, (![128 * m, 0] : Fin 2 → ℕ) k + S128x128.size k ≤ S1024x128.size k) :
    IsTile (H r) m kt (masked (tileAt (L12 := L12) (L13 := L13) (L14 := L14) r m kt V12 V13 V14 i0 i1 i2 i3 is ib
      (matmul (φ₁ := .bf16) (φ₂ := .bf16) dot_S128x128_S128x128_S128x128_1_1_0_0_n_n none (qAt r m iq M2 f2) (V10.readCov L10 (Rect.unit (s := S1024x128) ![128 * m, 0] S128x128.size ik).toLoadRect : FVec Ideal S128x128 .bf16) (constant S128x128 FTy.f32 0x00000000#32)))) := by
  subst h
  exact tile_diag hm _ _ _ _ _ _ _ (dot_full _ _ (q_at T r _ hm iq) (k_at T r _ V10 ik)) (x_at T r V13 _ (by omega) i0) (x_at T r V13 _ (by omega) i1)
    (x_at T r V13 _ (by omega) i2) (x_at T r V13 _ (by omega) i3) (ks_at T r _ V12 (by omega) is) (b_at T r _ _ V14 hm (by omega) ib)

include T hm in
/-- as the right half of a pair. -/
theorem tile_last_hi (n : ℕ) (hn : n + 1 = kt) (h : kt = m) (ik : ∀ k, (![128 * n, 0] : Fin 2 → ℕ) k + S256x128.size k ≤ S1024x128.size k) :
    IsTile (H r) m kt (masked (tileAt (L12 := L12) (L13 := L13) (L14 := L14) r m kt V12 V13 V14 i0 i1 i2 i3 is ib (extractStridedSlice S128x128 ![0, 128]
      (matmul (φ₁ := .bf16) (φ₂ := .bf16) dot_S128x128_S256x128_S128x256_1_1_0_0_n_n none (qAt r m iq M2 f2) (V10.readCov L10 (Rect.unit (s := S1024x128) ![128 * n, 0] S256x128.size ik).toLoadRect : FVec Ideal S256x128 .bf16) (constant S128x256 FTy.f32 0x00000000#32)) slices_S128x256_o0_128_S128x128))) := by
  subst h
  have hd := dot_hi _ _ (q_at T r kt hm iq) (k_at T r n V10 ik)
  rw [hn] at hd
  exact tile_diag hm _ _ _ _ _ _ _ hd (x_at T r V13 _ (by omega) i0) (x_at T r V13 _ (by omega) i1)
    (x_at T r V13 _ (by omega) i2) (x_at T r V13 _ (by omega) i3) (ks_at T r _ V12 (by omega) is) (b_at T r _ _ V14 hm (by omega) ib)
end

/-- An item after `n` of its tiles: the running sum, and the buffer. -/
def IsAcc (H : Head) (m n : ℕ) (x : FVec Ideal S128x128 .f32) (L : List (View.Piece (Elt Ideal) S128x1024 .f32)) : Prop :=
  IsSum H m n x ∧ IsBuf H m n L

theorem acc_one {h : Head} {m : ℕ} (inb : ∀ k, (![0, 0] : Fin 2 → ℕ) k + S128x128.size k ≤ S128x1024.size k) (e : FVec Ideal S128x128 .f32)
    (L : List (View.Piece (Elt Ideal) S128x1024 .f32)) (he : IsTile h m 0 e) :
    IsAcc h m 1 e (⟨Rect.unit (s := S128x1024) ![0, 0] S128x128.size inb, shapeCast S128x128 e (by rfl)⟩ :: L) :=
  ⟨sum_one e he, buf_succ 0 rfl inb e L (buf_zero m L) he⟩

theorem acc_succ {h : Head} {m : ℕ} (n : ℕ) (inb : ∀ k, (![0, 128 * n] : Fin 2 → ℕ) k + S128x128.size k ≤ S128x1024.size k) (x e : FVec Ideal S128x128 .f32)
    (L : List (View.Piece (Elt Ideal) S128x1024 .f32)) (hL : IsAcc h m n x L) (he : IsTile h m n e) :
    IsAcc h m (n + 1) (addf x e) (⟨Rect.unit (s := S128x1024) ![0, 128 * n] S128x128.size inb, shapeCast S128x128 e (by rfl)⟩ :: L) :=
  ⟨sum_succ x e hL.1 he, buf_succ _ rfl inb e L hL.2 he⟩

include T in
/-- An item's result, from all its tiles. -/
theorem item_at {m N : ℕ} (hm : m < 8) (hN : N = 128 * (m + 1)) (x : FVec Ideal S128x128 .f32) (L : List (View.Piece (Elt Ideal) S128x1024 .f32)) (hx : IsAcc (H r) m (m + 1) x L)
    (V : View sig κ' sp S128x1024 .f32) (ie : ∀ k, (![0, 0] : Fin 2 → ℕ) k + (![128, N] : Fin 2 → ℕ) k ≤ S128x1024.size k)
    (iv : ∀ k, (![0, 0, 0, 0] : Fin 4 → ℕ) k + (![1, 1, N, 128] : Fin 4 → ℕ) k ≤ S1x1x1024x128.size k)
    (hc : (⟨4, ![1, 1, N, 128]⟩ : Shape).ShapeCasts ⟨2, ![N, 128]⟩)
    (mm : FVec Ideal ⟨2, ![128, N]⟩ .fp8e4m3 → FVec Ideal ⟨2, ![N, 128]⟩ .fp8e4m3 → FVec Ideal S128x128 .f32)
    (hmm : ∀ p v i d, mm p v (ix2 i d) = ∑ j : Fin N, p (ix2 i j) * v (ix2 j d))
    (hb : (⟨2, ![128, 1]⟩ : Shape).Broadcasts ⟨2, ![128, N]⟩) (i d : Fin 128) :
    truncf .bf16 (mulf (mm (truncf .fp8e4m3 (minimumf (broadcast ⟨2, ![128, N]⟩ (FloatOps.ofBits .f32 0x43E00000#32)) (maximumf (broadcast ⟨2, ![128, N]⟩ (FloatOps.ofBits .f32 0x00000000#32))
      (mulf (V.readCov L (Rect.unit (s := S128x1024) ![0, 0] ![128, N] ie).toLoadRect) (broadcastTo ⟨2, ![128, N]⟩ (divf (broadcast S128x1 (FloatOps.ofBits .f32 0x43800000#32))
        (shapeCast S128x1 (multiReduction .add [1] S128 x 0x00000000#32 reduces_S128x128_S128 (.inl rfl) rfl) shapeCasts_S128_S128x1)) hb)))) (by decide))
        (shapeCast ⟨2, ![N, 128]⟩ (View.readAt (Elt Ideal) M7.view (Rect.unit (s := S1x1x1024x128) ![0, 0, 0, 0] ![1, 1, N, 128] iv).toLoadRect f7) hc))
      (broadcastTo S128x128 vf broadcasts_S1x128_S128x128)) (by decide) (ix2 i d) = (H r).out (row m i) d := by
  refine item_out hm hN x hx.1 _ (fun i j => ?_) _ (fun j d => ?_) vf (T.vs r) mm hmm hb i d
  · rw [cov2 V L ie i j i ⟨j.val, by omega⟩ (by simp) (by simp)]
    exact hx.2 i ⟨j.val, by omega⟩ (by simp; omega)
  · have hs : shapeCast ⟨2, ![N, 128]⟩ (View.readAt (Elt Ideal) M7.view (Rect.unit (s := S1x1x1024x128) ![0, 0, 0, 0] ![1, 1, N, 128] iv).toLoadRect f7) hc (ix2 j d)
        = View.readAt (Elt Ideal) M7.view (Rect.unit (s := S1x1x1024x128) ![0, 0, 0, 0] ![1, 1, N, 128] iv).toLoadRect f7 (ix4 0 0 j d) := by
      refine shapeCast_apply _ hc _ _ ?_
      rw [Shape.rowMajor_val_four, Shape.rowMajor_val_two]
      simp
    rw [hs, at4 _ _ _ _ _ _ _ 0 0 ⟨j.val, by omega⟩ d (by simp) (by simp) (by simp) (by simp), T.v r]

/-- The seven heads' results side by side. -/
def flat (H : Fin 7 → Head) (i : Fin 1024) (k : Fin 896) : EReal :=
  (H ⟨k.val / 128, by omega⟩).out i ⟨k.val % 128, by omega⟩

/-- The result's block after `n` items. -/
def IsOut (H : Fin 7 → Head) (n : ℕ) (L : List (View.Piece (Elt Ideal) S1x1024x896 .bf16)) : Prop :=
  ∀ (i : Fin 1024) (k : Fin 896), i.val / 128 * 7 + k.val / 128 < n → View.canon L (ix3 0 i k) = flat H i k

theorem out_piece {m : ℕ} (hm : m < 8) (inb : ∀ k, (![0, 128 * m, 128 * r.val] : Fin 3 → ℕ) k + S1x128x128.size k ≤ S1x1024x896.size k) (e : FVec Ideal S128x128 .bf16)
    (he : ∀ i d, e (ix2 i d) = (H r).out (row m i) d) (z : S1x128x128.Idx) :
    shapeCast S1x128x128 e shapeCasts_S128x128_S1x128x128 z = (fun y : S1x1024x896.Idx => flat H (y 1) (y 2)) ((Rect.unit (s := S1x1024x896) ![0, 128 * m, 128 * r.val] S1x128x128.size inb).emb z) := by
  idx_vars z
  have hs : shapeCast S1x128x128 e shapeCasts_S128x128_S1x128x128 (ix3 z0 z1 z2) = e (ix2 z1 z2) := by pointwise []
  refine hs.trans ?_
  rw [he, emb3]
  show _ = (H ⟨(128 * r.val + z2.val) / 128, _⟩).out ⟨128 * m + z1.val, _⟩ ⟨(128 * r.val + z2.val) % 128, _⟩
  congr 1
  · congr 1; exact Fin.ext (by simp; omega)
  · exact Fin.ext (by rw [row_val hm z1.isLt])
  · exact Fin.ext (by simp; omega)

theorem out_succ {m : ℕ} (hm : m < 8) (inb : ∀ k, (![0, 128 * m, 128 * r.val] : Fin 3 → ℕ) k + S1x128x128.size k ≤ S1x1024x896.size k) (e : FVec Ideal S128x128 .bf16)
    (L : List (View.Piece (Elt Ideal) S1x1024x896 .bf16)) (he : ∀ i d, e (ix2 i d) = (H r).out (row m i) d) (hL : IsOut H (7 * m + r.val) L) :
    IsOut H (7 * m + r.val + 1) (⟨Rect.unit (s := S1x1024x896) ![0, 128 * m, 128 * r.val] S1x128x128.size inb, shapeCast S1x128x128 e shapeCasts_S128x128_S1x128x128⟩ :: L) := by
  intro i k h
  refine canon_step (fun y => flat H (y 1) (y 2)) _ _ L (ix3 0 i k) ?_ fun hy => hL i k ?_
  · exact out_piece r hm inb e he
  · by_contra hn
    refine hy (Rect.mem_set_unit.mpr fun a => ?_)
    have h1 : i.val / 128 = m := by omega
    have h2 : k.val / 128 = r.val := by omega
    match a with
    | ⟨0, _⟩ => exact ⟨by simp, by simp⟩
    | ⟨1, _⟩ => exact ⟨by simp; omega, by simp; omega⟩
    | ⟨2, _⟩ => exact ⟨by simp; omega, by simp; omega⟩

end Cert.Proof.KernelIdeal

end
-- ==== Proof.First.lean ====
/- The kernel's first pass, item by item: 56 stores, each a block of the seven heads' results. -/
module

public import proofs.«01_k».proof.Proof.Items

@[expose] public section

set_option maxRecDepth 16384

noncomputable section

namespace Cert.Proof.KernelIdeal

open Cert.KernelIdeal Cert.KernelIdeal.Gen Idealize.ShloMosaic Idealize.ShloMosaic.TcCoe
open Cert.Proof.Spec Cert.Proof.Softmax

variable {c : Dev nD} {i : grid0.Coords}
    {M2 : Memref sig .tc .vmem S1x7x1024x128 .i8} {M3 : Memref sig .tc .vmem S28x2x32 .f32} {M4 : Memref sig .tc .vmem S1x7x8x128 .bf16}
    {M5 : Memref sig .tc .vmem S1x1x1024x128 .i8} {M6 : Memref sig .tc .vmem S1x1x1x32 .f32} {M7 : Memref sig .tc .vmem S1x1x1024x128 .fp8e4m3}
    {M8 : Memref sig .tc .vmem S1x1x128 .f32} (M10 : Memref sig .tc .vmem S1024x128 .bf16) (M11 : Memref sig .tc .vmem S32x128 .f32)
    (M12 : Memref sig .tc .vmem S1x1024 .f32) (M13 : Memref sig .tc .vmem S7x32x128 .f32) (M14 : Memref sig .tc .vmem S7x8x1024 .f32)
    (M15 M16 : Memref sig .tc .vmem S128x1024 .f32)
    {f2 : Bf (F := Ideal) c M2} {f3 : Bf (F := Ideal) c M3} {f4 : Bf (F := Ideal) c M4} {f5 : Bf (F := Ideal) c M5} {f6 : Bf (F := Ideal) c M6}
    {f7 : Bf (F := Ideal) c M7} {f8 : Bf (F := Ideal) c M8} {H : Fin 7 → Head} (R : Reads i f2 f3 f4 f5 f6 f7 f8 H)

include R in
theorem tables : Tables f2 f7 (kernelRun.sl.H10_1 (F := Ideal) c M5 f5) (kernelRun.sl.H12_8 (F := Ideal) c M6 M11 f6) (kernelRun.sl.H13_7 (F := Ideal) c i M3 f3)
    (kernelRun.sl.H14_7 (F := Ideal) c M4 M5 M6 M10 M11 M12 f4 f5 f6) (kernelRun.sl.v369 (F := Ideal) c M8 f8) H where
  q := R.q
  k := keys R
  ks := key_row M11 R
  qs := query_cols R
  b := bias_rows M10 M11 M12 R
  v := R.v
  vs := fun r d => by
    have h : kernelRun.sl.v369 (F := Ideal) c M8 f8 (ix2 0 d) = M8.view.read (Elt Ideal) f8 (ix3 0 0 d) * Ideal.ofBits .f32 0x3B800000#32 := by
      rw [← at3 M8.view f8 (inb_S1x1x128_S1x1x128_0_0_0) 0 0 d 0 0 d (by simp) (by simp) (by simp)]
      unfold kernelRun.sl.v369
      show shapeCast S1x128 _ _ (ix2 0 d) * _ = _
      rw [cast_row]
      rfl
    rw [h, R.vs r, ofBits_inv256]

/-- Seven items in a row: a block of positions, of the seven heads. -/
theorem out_seven {m : ℕ} (hm : m < 8) (i0 i1 i2 i3 i4 i5 i6 : _) (e0 e1 e2 e3 e4 e5 e6 : FVec Ideal S128x128 .bf16) (L : List (View.Piece (Elt Ideal) S1x1024x896 .bf16))
    (hL : IsOut H (7 * m) L)
    (h0 : ∀ i d, e0 (ix2 i d) = (H 0).out (row m i) d) (h1 : ∀ i d, e1 (ix2 i d) = (H 1).out (row m i) d) (h2 : ∀ i d, e2 (ix2 i d) = (H 2).out (row m i) d)
    (h3 : ∀ i d, e3 (ix2 i d) = (H 3).out (row m i) d) (h4 : ∀ i d, e4 (ix2 i d) = (H 4).out (row m i) d) (h5 : ∀ i d, e5 (ix2 i d) = (H 5).out (row m i) d)
    (h6 : ∀ i d, e6 (ix2 i d) = (H 6).out (row m i) d) :
    IsOut H (7 * m + 7) (⟨Rect.unit (s := S1x1024x896) ![0, 128 * m, 768] S1x128x128.size i6, shapeCast S1x128x128 e6 shapeCasts_S128x128_S1x128x128⟩ ::
      ⟨Rect.unit (s := S1x1024x896) ![0, 128 * m, 640] S1x128x128.size i5, shapeCast S1x128x128 e5 shapeCasts_S128x128_S1x128x128⟩ ::
      ⟨Rect.unit (s := S1x1024x896) ![0, 128 * m, 512] S1x128x128.size i4, shapeCast S1x128x128 e4 shapeCasts_S128x128_S1x128x128⟩ ::
      ⟨Rect.unit (s := S1x1024x896) ![0, 128 * m, 384] S1x128x128.size i3, shapeCast S1x128x128 e3 shapeCasts_S128x128_S1x128x128⟩ ::
      ⟨Rect.unit (s := S1x1024x896) ![0, 128 * m, 256] S1x128x128.size i2, shapeCast S1x128x128 e2 shapeCasts_S128x128_S1x128x128⟩ ::
      ⟨Rect.unit (s := S1x1024x896) ![0, 128 * m, 128] S1x128x128.size i1, shapeCast S1x128x128 e1 shapeCasts_S128x128_S1x128x128⟩ ::
      ⟨Rect.unit (s := S1x1024x896) ![0, 128 * m, 0] S1x128x128.size i0, shapeCast S1x128x128 e0 shapeCasts_S128x128_S1x128x128⟩ :: L) :=
  out_succ 6 hm i6 e6 _ h6 (out_succ 5 hm i5 e5 _ h5 (out_succ 4 hm i4 e4 _ h4 (out_succ 3 hm i3 e3 _ h3 (out_succ 2 hm i2 e2 _ h2
    (out_succ 1 hm i1 e1 _ h1 (out_succ 0 hm i0 e0 _ h0 hL))))))

include R in
theorem rows_1 : IsOut H 7 (kernelRun.sl.H9_7 (F := Ideal) c i M2 M3 M4 M5 M6 M7 M8 M10 M11 M12 M13 M14 M15 M16 f2 f3 f4 f5 f6 f7 f8) := by
  have T := tables M10 M11 M12 R
  have hmm (p v i d) : (fun p v => matmul (φ₁ := .fp8e4m3) (φ₂ := .fp8e4m3) dot_S128x128_S128x128_S128x128_1_0_0_1_n_n none p v (constant (F := Ideal) S128x128 .f32 0x00000000#32)) p v (ix2 i d)
      = ∑ j : Fin 128, p (ix2 i j) * v (ix2 j d) := by pointwise []
  refine out_seven (m := 0) (by decide) _ _ _ _ _ _ _ _ _ _ _ _ _ _ _ (fun _ _ h => absurd h (by simp)) ?_ ?_ ?_ ?_ ?_ ?_ ?_
  all_goals
    intro i d
    refine item_at T _ (m := 0) (by decide) rfl _ _ ?_ _ _ _ _ _ hmm _ i d
    refine acc_one _ _ _ ?_
    exact tile_last T _ 0 0 _ _ _ _ (by decide) _ _ _ _ _ _ _ rfl _

include R in
theorem rows_2 : IsOut H 14 (kernelRun.sl.H9_14 (F := Ideal) c i M2 M3 M4 M5 M6 M7 M8 M10 M11 M12 M13 M14 M15 M16 f2 f3 f4 f5 f6 f7 f8) := by
  have T := tables M10 M11 M12 R
  have hmm (p v i d) : (fun p v => matmul (φ₁ := .fp8e4m3) (φ₂ := .fp8e4m3) dot_S128x256_S256x128_S128x128_1_0_0_1_n_n none p v (constant (F := Ideal) S128x128 .f32 0x00000000#32)) p v (ix2 i d)
      = ∑ j : Fin 256, p (ix2 i j) * v (ix2 j d) := by pointwise []
  refine out_seven (m := 1) (by decide) _ _ _ _ _ _ _ _ _ _ _ _ _ _ _ (rows_1 M10 M11 M12 M13 M14 M15 M16 R) ?_ ?_ ?_ ?_ ?_ ?_ ?_
  all_goals
    intro i d
    refine item_at T _ (m := 1) (by decide) rfl _ _ ?_ _ _ _ _ _ hmm _ i d
    iterate 1 refine acc_succ _ _ _ _ _ ?_ ?_
    refine acc_one _ _ _ ?_
    · exact tile_lo T _ 1 0 _ _ _ _ (by decide) _ _ _ _ _ _ _ (by decide) _
    · exact tile_last_hi T _ 1 1 _ _ _ _ (by decide) _ _ _ _ _ _ _ 0 rfl rfl _

include R in
theorem rows_3 : IsOut H 21 (kernelRun.sl.H9_21 (F := Ideal) c i M2 M3 M4 M5 M6 M7 M8 M10 M11 M12 M13 M14 M15 M16 f2 f3 f4 f5 f6 f7 f8) := by
  have T := tables M10 M11 M12 R
  have hmm (p v i d) : (fun p v => matmul (φ₁ := .fp8e4m3) (φ₂ := .fp8e4m3) dot_S128x384_S384x128_S128x128_1_0_0_1_n_n none p v (constant (F := Ideal) S128x128 .f32 0x00000000#32)) p v (ix2 i d)
      = ∑ j : Fin 384, p (ix2 i j) * v (ix2 j d) := by pointwise []
  refine out_seven (m := 2) (by decide) _ _ _ _ _ _ _ _ _ _ _ _ _ _ _ (rows_2 M10 M11 M12 M13 M14 M15 M16 R) ?_ ?_ ?_ ?_ ?_ ?_ ?_
  all_goals
    intro i d
    refine item_at T _ (m := 2) (by decide) rfl _ _ ?_ _ _ _ _ _ hmm _ i d
    iterate 2 refine acc_succ _ _ _ _ _ ?_ ?_
    refine acc_one _ _ _ ?_
    · exact tile_lo T _ 2 0 _ _ _ _ (by decide) _ _ _ _ _ _ _ (by decide) _
    · exact tile_hi T _ 2 1 _ _ _ _ (by decide) _ _ _ _ _ _ _ 0 rfl (by decide) _
    · exact tile_last T _ 2 2 _ _ _ _ (by decide) _ _ _ _ _ _ _ rfl _

include R in
theorem rows_4 : IsOut H 28 (kernelRun.sl.H9_28 (F := Ideal) c i M2 M3 M4 M5 M6 M7 M8 M10 M11 M12 M13 M14 M15 M16 f2 f3 f4 f5 f6 f7 f8) := by
  have T := tables M10 M11 M12 R
  have hmm (p v i d) : (fun p v => matmul (φ₁ := .fp8e4m3) (φ₂ := .fp8e4m3) dot_S128x512_S512x128_S128x128_1_0_0_1_n_n none p v (constant (F := Ideal) S128x128 .f32 0x00000000#32)) p v (ix2 i d)
      = ∑ j : Fin 512, p (ix2 i j) * v (ix2 j d) := by pointwise []
  refine out_seven (m := 3) (by decide) _ _ _ _ _ _ _ _ _ _ _ _ _ _ _ (rows_3 M10 M11 M12 M13 M14 M15 M16 R) ?_ ?_ ?_ ?_ ?_ ?_ ?_
  all_goals
    intro i d
    refine item_at T _ (m := 3) (by decide) rfl _ _ ?_ _ _ _ _ _ hmm _ i d
    iterate 3 refine acc_succ _ _ _ _ _ ?_ ?_
    refine acc_one _ _ _ ?_
    · exact tile_lo T _ 3 0 _ _ _ _ (by decide) _ _ _ _ _ _ _ (by decide) _
    · exact tile_hi T _ 3 1 _ _ _ _ (by decide) _ _ _ _ _ _ _ 0 rfl (by decide) _
    · exact tile_lo T _ 3 2 _ _ _ _ (by decide) _ _ _ _ _ _ _ (by decide) _
    · exact tile_last_hi T _ 3 3 _ _ _ _ (by decide) _ _ _ _ _ _ _ 2 rfl rfl _

include R in
theorem rows_5 : IsOut H 35 (kernelRun.sl.H9_35 (F := Ideal) c i M2 M3 M4 M5 M6 M7 M8 M10 M11 M12 M13 M14 M15 M16 f2 f3 f4 f5 f6 f7 f8) := by
  have T := tables M10 M11 M12 R
  have hmm (p v i d) : (fun p v => matmul (φ₁ := .fp8e4m3) (φ₂ := .fp8e4m3) dot_S128x640_S640x128_S128x128_1_0_0_1_n_n none p v (constant (F := Ideal) S128x128 .f32 0x00000000#32)) p v (ix2 i d)
      = ∑ j : Fin 640, p (ix2 i j) * v (ix2 j d) := by pointwise []
  refine out_seven (m := 4) (by decide) _ _ _ _ _ _ _ _ _ _ _ _ _ _ _ (rows_4 M10 M11 M12 M13 M14 M15 M16 R) ?_ ?_ ?_ ?_ ?_ ?_ ?_
  all_goals
    intro i d
    refine item_at T _ (m := 4) (by decide) rfl _ _ ?_ _ _ _ _ _ hmm _ i d
    iterate 4 refine acc_succ _ _ _ _ _ ?_ ?_
    refine acc_one _ _ _ ?_
    · exact tile_lo T _ 4 0 _ _ _ _ (by decide) _ _ _ _ _ _ _ (by decide) _
    · exact tile_hi T _ 4 1 _ _ _ _ (by decide) _ _ _ _ _ _ _ 0 rfl (by decide) _
    · exact tile_lo T _ 4 2 _ _ _ _ (by decide) _ _ _ _ _ _ _ (by decide) _
    · exact tile_hi T _ 4 3 _ _ _ _ (by decide) _ _ _ _ _ _ _ 2 rfl (by decide) _
    · exact tile_last T _ 4 4 _ _ _ _ (by decide) _ _ _ _ _ _ _ rfl _

include R in
theorem rows_6 : IsOut H 42 (kernelRun.sl.H9_42 (F := Ideal) c i M2 M3 M4 M5 M6 M7 M8 M10 M11 M12 M13 M14 M15 M16 f2 f3 f4 f5 f6 f7 f8) := by
  have T := tables M10 M11 M12 R
  have hmm (p v i d) : (fun p v => matmul (φ₁ := .fp8e4m3) (φ₂ := .fp8e4m3) dot_S128x768_S768x128_S128x128_1_0_0_1_n_n none p v (constant (F := Ideal) S128x128 .f32 0x00000000#32)) p v (ix2 i d)
      = ∑ j : Fin 768, p (ix2 i j) * v (ix2 j d) := by pointwise []
  refine out_seven (m := 5) (by decide) _ _ _ _ _ _ _ _ _ _ _ _ _ _ _ (rows_5 M10 M11 M12 M13 M14 M15 M16 R) ?_ ?_ ?_ ?_ ?_ ?_ ?_
  all_goals
    intro i d
    refine item_at T _ (m := 5) (by decide) rfl _ _ ?_ _ _ _ _ _ hmm _ i d
    iterate 5 refine acc_succ _ _ _ _ _ ?_ ?_
    refine acc_one _ _ _ ?_
    · exact tile_lo T _ 5 0 _ _ _ _ (by decide) _ _ _ _ _ _ _ (by decide) _
    · exact tile_hi T _ 5 1 _ _ _ _ (by decide) _ _ _ _ _ _ _ 0 rfl (by decide) _
    · exact tile_lo T _ 5 2 _ _ _ _ (by decide) _ _ _ _ _ _ _ (by decide) _
    · exact tile_hi T _ 5 3 _ _ _ _ (by decide) _ _ _ _ _ _ _ 2 rfl (by decide) _
    · exact tile_lo T _ 5 4 _ _ _ _ (by decide) _ _ _ _ _ _ _ (by decide) _
    · exact tile_last_hi T _ 5 5 _ _ _ _ (by decide) _ _ _ _ _ _ _ 4 rfl rfl _

include R in
theorem rows_7 : IsOut H 49 (kernelRun.sl.H9_49 (F := Ideal) c i M2 M3 M4 M5 M6 M7 M8 M10 M11 M12 M13 M14 M15 M16 f2 f3 f4 f5 f6 f7 f8) := by
  have T := tables M10 M11 M12 R
  have hmm (p v i d) : (fun p v => matmul (φ₁ := .fp8e4m3) (φ₂ := .fp8e4m3) dot_S128x896_S896x128_S128x128_1_0_0_1_n_n none p v (constant (F := Ideal) S128x128 .f32 0x00000000#32)) p v (ix2 i d)
      = ∑ j : Fin 896, p (ix2 i j) * v (ix2 j d) := by pointwise []
  refine out_seven (m := 6) (by decide) _ _ _ _ _ _ _ _ _ _ _ _ _ _ _ (rows_6 M10 M11 M12 M13 M14 M15 M16 R) ?_ ?_ ?_ ?_ ?_ ?_ ?_
  all_goals
    intro i d
    refine item_at T _ (m := 6) (by decide) rfl _ _ ?_ _ _ _ _ _ hmm _ i d
    iterate 6 refine acc_succ _ _ _ _ _ ?_ ?_
    refine acc_one _ _ _ ?_
    · exact tile_lo T _ 6 0 _ _ _ _ (by decide) _ _ _ _ _ _ _ (by decide) _
    · exact tile_hi T _ 6 1 _ _ _ _ (by decide) _ _ _ _ _ _ _ 0 rfl (by decide) _
    · exact tile_lo T _ 6 2 _ _ _ _ (by decide) _ _ _ _ _ _ _ (by decide) _
    · exact tile_hi T _ 6 3 _ _ _ _ (by decide) _ _ _ _ _ _ _ 2 rfl (by decide) _
    · exact tile_lo T _ 6 4 _ _ _ _ (by decide) _ _ _ _ _ _ _ (by decide) _
    · exact tile_hi T _ 6 5 _ _ _ _ (by decide) _ _ _ _ _ _ _ 4 rfl (by decide) _
    · exact tile_last T _ 6 6 _ _ _ _ (by decide) _ _ _ _ _ _ _ rfl _

include R in
theorem rows_8 : IsOut H 56 (kernelRun.sl.H9_56_1 (F := Ideal) c i M2 M3 M4 M5 M6 M7 M8 M10 M11 M12 M13 M14 M15 M16 f2 f3 f4 f5 f6 f7 f8) := by
  have T := tables M10 M11 M12 R
  have hmm (p v i d) : (fun p v => matmul (φ₁ := .fp8e4m3) (φ₂ := .fp8e4m3) dot_S128x1024_S1024x128_S128x128_1_0_0_1_n_n none p v (constant (F := Ideal) S128x128 .f32 0x00000000#32)) p v (ix2 i d)
      = ∑ j : Fin 1024, p (ix2 i j) * v (ix2 j d) := by pointwise []
  refine out_seven (m := 7) (by decide) _ _ _ _ _ _ _ _ _ _ _ _ _ _ _ (rows_7 M10 M11 M12 M13 M14 M15 M16 R) ?_ ?_ ?_ ?_ ?_ ?_ ?_
  all_goals
    intro i d
    refine item_at T _ (m := 7) (by decide) rfl _ _ ?_ _ _ _ _ _ hmm _ i d
    iterate 7 refine acc_succ _ _ _ _ _ ?_ ?_
    refine acc_one _ _ _ ?_
    · exact tile_lo T _ 7 0 _ _ _ _ (by decide) _ _ _ _ _ _ _ (by decide) _
    · exact tile_hi T _ 7 1 _ _ _ _ (by decide) _ _ _ _ _ _ _ 0 rfl (by decide) _
    · exact tile_lo T _ 7 2 _ _ _ _ (by decide) _ _ _ _ _ _ _ (by decide) _
    · exact tile_hi T _ 7 3 _ _ _ _ (by decide) _ _ _ _ _ _ _ 2 rfl (by decide) _
    · exact tile_lo T _ 7 4 _ _ _ _ (by decide) _ _ _ _ _ _ _ (by decide) _
    · exact tile_hi T _ 7 5 _ _ _ _ (by decide) _ _ _ _ _ _ _ 4 rfl (by decide) _
    · exact tile_lo T _ 7 6 _ _ _ _ (by decide) _ _ _ _ _ _ _ (by decide) _
    · exact tile_last_hi T _ 7 7 _ _ _ _ (by decide) _ _ _ _ _ _ _ 6 rfl rfl _

end Cert.Proof.KernelIdeal

end
-- ==== Proof.Second.lean ====
/- The kernel's guarded second pass, with each row's greatest score subtracted: one trip's store is the same block of the seven
   heads' results as the first pass's. -/
module

public import proofs.«01_k».proof.Proof.Items

@[expose] public section

set_option maxRecDepth 16384

noncomputable section

namespace Cert.Proof.KernelIdeal

open Cert.KernelIdeal Cert.KernelIdeal.Gen Idealize.ShloMosaic Idealize.ShloMosaic.TcCoe
open Cert.Proof.Spec Cert.Proof.Softmax

/-! ## Where a trip reads and writes -/

theorem off2_eq : ∀ k : Fin k0_t1_loop.trips, k0_off2 k = ![0, k.val % 7, 128 * (k.val / 7), 0] := by decide +kernel
theorem off3_eq : ∀ (k : Fin k0_t1_loop.trips) (t : Fin 4), k0_off3 k (BitVec.ofNat 32 t.val) = ![k.val % 7, 4 * (k.val / 7) + t.val, 0] := by decide +kernel
theorem off4_eq : ∀ k : Fin k0_t1_loop.trips, k0_off4 k = ![k.val % 7, k.val / 7, 0] := by decide +kernel
theorem off5_eq : ∀ k : Fin k0_t1_loop.trips, k0_off5 k = ![0, 128 * (k.val / 7), 128 * (k.val % 7)] := by decide +kernel

/-! ## What a trip computes -/

section
variable {H : Head} {m : ℕ} (hm : m < 8) (word : BitVec 32) (hw : word = BitVec.ofNat 32 m)
  (x : Vec Ideal S1x1x128x128 .i8) (z0 z1 z2 z3 : Vec Ideal S1x1x1 .f32) (K : Vec Ideal S1024x128 .bf16) (S : Vec Ideal S1x1024 .f32) (B : Vec Ideal S1x1x1024 .f32)
  (hx : ∀ i d : Fin 128, (((x (ix4 0 0 i d) : BitVec 8).toInt : ℝ)) = H.q (row m i) d)
  (h0 : z0 (ix3 0 0 0) = (H.qs (tk (4 * m)) : EReal)) (h1 : z1 (ix3 0 0 0) = (H.qs (tk (4 * m + 1)) : EReal))
  (h2 : z2 (ix3 0 0 0) = (H.qs (tk (4 * m + 2)) : EReal)) (h3 : z3 (ix3 0 0 0) = (H.qs (tk (4 * m + 3)) : EReal))
  (hK : ∀ j d, K (ix2 j d) = (H.k j d : EReal)) (hS : ∀ j, S (ix2 0 j) = ((H.ks (tok j) * Spec.κ : ℝ) : EReal))
  (hB : ∀ j, B (ix3 0 0 j) = (((∑ d, H.qm (bk m) d * H.k j d) * (H.ks (tok j) * Spec.κ) : ℝ) : EReal))

include hm h0 h1 h2 h3 in
/-- The four query scales of a block, each along its 32 rows. -/
theorem column (i : Fin 128) : concatenate S128x1 0 [⟨S32x1, k0_pay5 (F := Ideal) z0⟩, ⟨S32x1, k0_pay6 (F := Ideal) z1⟩, ⟨S32x1, broadcastTo S32x1 (shapeCast S1x1 (shapeCast S1x1 z2 shapeCasts_S1x1x1_S1x1) shapeCasts_S1x1_S1x1) broadcasts_S1x1_S32x1⟩,
      ⟨S32x1, broadcastTo S32x1 (shapeCast S1x1 (shapeCast S1x1 z3 shapeCasts_S1x1x1_S1x1) shapeCasts_S1x1_S1x1) broadcasts_S1x1_S32x1⟩] concatenates_S32x1_S32x1_S32x1_S32x1_S128x1_d0 (ix2 i 0)
      = (H.qs (tok (row m i)) : EReal) := by
  have hi := row_val hm i.isLt
  have key (u : ℕ) (hu : 4 * m + u = (row m i).val / 32) : tk (4 * m + u) = tok (row m i) := Fin.ext (by simp only [tk, tok, Fin.val_ofNat]; omega)
  pointwise [k0_pay5, k0_pay6]
  split
  · rw [h0, ← key 0 (by omega)]; rfl
  · split
    · rw [h1, ← key 1 (by omega)]
    · split
      · rw [h2, ← key 2 (by omega)]
      · rw [h3, ← key 3 (by omega)]

include hm hw hx h0 h1 h2 h3 hK hS hB in
/-- The powers of two of a block's scores less each row's greatest. -/
theorem shifted (i : Fin 128) (j : Fin 1024) : k0_pay7 (F := Ideal) word (k0_pay4 x) (k0_pay5 z0) (k0_pay6 z1) z2 z3 K S B (ix2 i j) =
    Ideal.exp2 (Softmax.score (H.score (row m i)) (row m i).val 1 j - Finset.univ.fold max ⊥ (Softmax.score (H.score (row m i)) (row m i).val 1)) := by
  have hX := column hm z0 z1 z2 z3 h0 h1 h2 h3
  delta k0_pay7
  dsimp only []
  generalize concatenate S128x1 0 _ _ = X at hX
  have hs (j : Fin 1024) : Scalar.select (IntOp.cmpi .sle (BitVec.ofNat 32 j.val) (IntOp.addi (Scalar.muli word 128#32) (BitVec.ofNat 32 i.val)))
      ((∑ d, FloatOps.sitofp (F := Ideal) FTy.bf16 (x (ix4 0 0 i d) : BitVec 8) * K (ix2 j d)) * (X (ix2 i 0) * S (ix2 0 j)) + B (ix3 0 0 j)) ⊥
        = Softmax.score (H.score (row m i)) (row m i).val 1 j := by
    have e : IntOp.addi (Scalar.muli word 128#32) (BitVec.ofNat 32 i.val) = BitVec.ofNat 32 (row m i).val := by
      rw [row_val hm i.isLt, hw]
      show BitVec.ofNat 32 m * 128#32 + BitVec.ofNat 32 i.val = _
      rw [show (128#32 : BitVec 32) = BitVec.ofNat 32 128 from rfl, ← BitVec.ofNat_mul, ← BitVec.ofNat_add, mul_comm]
    rw [e]
    refine select_score (H.score (row m i)) (row m i) j 1 _ ?_
    have eb : bk m = blk (row m i) := Fin.ext (by simp only [bk, blk, Fin.val_ofNat]; have := row_val hm i.isLt; omega)
    rw [hX, hS, hB, eb]
    simp only [code_real, hx, hK, ← EReal.coe_mul, sum_coe, ← EReal.coe_add, mul_one]
    rfl
  pointwise [k0_pay4]
  rw [ofBits_bot]
  simp only [hs]
  rfl

include hm hw hx h0 h1 h2 h3 hK hS hB in
/-- A trip's store. -/
theorem shifted_out (vf : FVec Ideal S1x128 .f32) (hvf : ∀ d : Fin 128, vf (ix2 0 d) = H.vs d * ((1 / 256 : ℝ) : EReal))
    (v : Vec Ideal S1x1x1024x128 .fp8e4m3) (hv : ∀ j d, v (ix4 0 0 j d) = H.v j d) :
    ∃ e : FVec Ideal S128x128 .bf16, (∀ i d, e (ix2 i d) = H.out (row m i) d) ∧
      k0_pay3 (F := Ideal) vf (k0_pay7 word (k0_pay4 x) (k0_pay5 z0) (k0_pay6 z1) z2 z3 K S B) (k0_pay8 word (k0_pay4 x) (k0_pay5 z0) (k0_pay6 z1) z2 z3 K S B) v
        = shapeCast S1x128x128 e shapeCasts_S128x128_S1x128x128 := by
  refine ⟨_, fun i d => ?_, rfl⟩
  have hs := shifted hm word hw x z0 z1 z2 z3 K S B hx h0 h1 h2 h3 hK hS hB i
  unfold k0_pay8
  dsimp only []
  generalize k0_pay7 (F := Ideal) word (k0_pay4 x) (k0_pay5 z0) (k0_pay6 z1) z2 z3 K S B = E at hs
  pointwise []
  rw [hvf, ofBits_448, ofBits_256, Head.out]
  simp only [hs, hv]
  congr 1
  refine Finset.sum_congr rfl fun j _ => ?_
  rw [← prob_exp2 (H.score (row m i)) (row m i).val _ (le_fold_max _) (exists_fold_max _) j, clip, min_comm, max_comm]
end

/-- The block of positions of trip `k`: `k / 7`. -/
abbrev blockOf (k : Fin k0_t1_loop.trips) : BitVec 32 :=
  Scalar.select (0#1) (Scalar.subi (Scalar.divsi (Scf.iv 0#32 1#32 k) 7#32) 1#32) (Scalar.divsi (Scf.iv 0#32 1#32 k) 7#32)

theorem blockOf_eq : ∀ k : Fin k0_t1_loop.trips, blockOf k = BitVec.ofNat 32 (k.val / 7) := by decide +kernel

/-! ## What a trip's loads read -/

theorem load4 {κ' : Kind} {sp : Space} {e : EltTy} {n o p q a b c' d r s t u : ℕ} (V : View sig κ' sp ⟨4, ![n, o, p, q]⟩ e) (f : V.ty.Contents (Elt Ideal)) (off : Fin 4 → ℕ)
    (ho : off = ![r, s, t, u]) (inb : ∀ k, off k + (![a, b, c', d] : Fin 4 → ℕ) k ≤ (⟨4, ![n, o, p, q]⟩ : Shape).size k)
    (i : Fin a) (j : Fin b) (k : Fin c') (l : Fin d) (i' : Fin n) (j' : Fin o) (k' : Fin p) (l' : Fin q)
    (hi : r + i.val = i'.val) (hj : s + j.val = j'.val) (hk : t + k.val = k'.val) (hl : u + l.val = l'.val) :
    V.readAt (Elt Ideal) (Rect.unit (s := ⟨4, ![n, o, p, q]⟩) off ![a, b, c', d] inb).toLoadRect f (ix4 i j k l) = V.read (Elt Ideal) f (ix4 i' j' k' l') := by
  subst ho; exact at4 V f inb i j k l i' j' k' l' hi hj hk hl

theorem load3 {κ' : Kind} {sp : Space} {e : EltTy} {n o p a b c' r s t : ℕ} (V : View sig κ' sp ⟨3, ![n, o, p]⟩ e) (L : List (View.Piece (Elt Ideal) ⟨3, ![n, o, p]⟩ e)) (off : Fin 3 → ℕ)
    (ho : off = ![r, s, t]) (inb : ∀ k, off k + (![a, b, c'] : Fin 3 → ℕ) k ≤ (⟨3, ![n, o, p]⟩ : Shape).size k)
    (i : Fin a) (j : Fin b) (k : Fin c') (i' : Fin n) (j' : Fin o) (k' : Fin p) (hi : r + i.val = i'.val) (hj : s + j.val = j'.val) (hk : t + k.val = k'.val) :
    V.readAt (Elt Ideal) (Rect.unit (s := ⟨3, ![n, o, p]⟩) off ![a, b, c'] inb).toLoadRect (V.writes (Elt Ideal) V.junk L) (ix3 i j k) = View.canon L (ix3 i' j' k') := by
  subst ho; rw [at3 V _ inb i j k i' j' k' hi hj hk, View.read_writes_junk_eq_canon]

theorem load2 {κ' : Kind} {sp : Space} {e : EltTy} {n o : ℕ} (V : View sig κ' sp ⟨2, ![n, o]⟩ e) (L : List (View.Piece (Elt Ideal) ⟨2, ![n, o]⟩ e))
    (inb : ∀ k, (![0, 0] : Fin 2 → ℕ) k + (![n, o] : Fin 2 → ℕ) k ≤ (⟨2, ![n, o]⟩ : Shape).size k) (i : Fin n) (j : Fin o) :
    V.readAt (Elt Ideal) (Rect.unit (s := ⟨2, ![n, o]⟩) ![0, 0] ![n, o] inb).toLoadRect (V.writes (Elt Ideal) V.junk L) (ix2 i j) = View.canon L (ix2 i j) := by
  rw [← View.read_writes_junk_eq_canon V L]
  refine congrArg (V.read (Elt Ideal) _) (funext fun x => ?_)
  match x with
  | ⟨0, _⟩ => exact Fin.ext (by simp)
  | ⟨1, _⟩ => exact Fin.ext (by simp)

theorem store_at {H : Fin 7 → Head} (r : Fin 7) {m : ℕ} (hm : m < 8) (off : Fin 3 → ℕ) (ho : off = ![0, 128 * m, 128 * r.val]) (inb : ∀ k, off k + S1x128x128.size k ≤ S1x1024x896.size k)
    (e : FVec Ideal S128x128 .bf16) (he : ∀ i d, e (ix2 i d) = (H r).out (row m i) d) (z : S1x128x128.Idx) :
    shapeCast S1x128x128 e shapeCasts_S128x128_S1x128x128 z = (fun y : S1x1024x896.Idx => flat H (y 1) (y 2)) ((Rect.unit (s := S1x1024x896) off S1x128x128.size inb).emb z) := by
  subst ho; exact out_piece r hm inb e he z

/-! ## The second pass -/

section
variable {c : Dev nD} (i : grid0.Coords)
    (M2 : Memref sig .tc .vmem S1x7x1024x128 .i8) (h2 : M2.IsWhole) (M3 : Memref sig .tc .vmem S28x2x32 .f32) (h3 : M3.IsWhole) (M4 : Memref sig .tc .vmem S1x7x8x128 .bf16) (h4 : M4.IsWhole)
    (M5 : Memref sig .tc .vmem S1x1x1024x128 .i8) (h5 : M5.IsWhole) (M6 : Memref sig .tc .vmem S1x1x1x32 .f32) (h6 : M6.IsWhole) (M7 : Memref sig .tc .vmem S1x1x1024x128 .fp8e4m3) (h7 : M7.IsWhole)
    (M8 : Memref sig .tc .vmem S1x1x128 .f32) (h8 : M8.IsWhole) (M9 : Memref sig .tc .vmem S1x1024x896 .bf16) (h9 : M9.IsWhole) (M10 : Memref sig .tc .vmem S1024x128 .bf16) (h10 : M10.IsWhole)
    (M11 : Memref sig .tc .vmem S32x128 .f32) (h11 : M11.IsWhole) (M12 : Memref sig .tc .vmem S1x1024 .f32) (h12 : M12.IsWhole) (M13 : Memref sig .tc .vmem S7x32x128 .f32) (h13 : M13.IsWhole)
    (M14 : Memref sig .tc .vmem S7x8x1024 .f32) (h14 : M14.IsWhole) (M15 : Memref sig .tc .vmem S128x1024 .f32) (h15 : M15.IsWhole) (M16 : Memref sig .tc .vmem S128x1024 .f32) (h16 : M16.IsWhole)
    (M17 : Memref sig .tc .vmem S128x128 .f32) (h17 : M17.IsWhole)
    {f2 : Bf (F := Ideal) c M2} {f7 : Bf (F := Ideal) c M7}
    {L10 : List (View.Piece (Elt Ideal) S1024x128 .bf16)} {L12 : List (View.Piece (Elt Ideal) S1x1024 .f32)}
    {L13 : List (View.Piece (Elt Ideal) S7x32x128 .f32)} {L14 : List (View.Piece (Elt Ideal) S7x8x1024 .f32)}
    {vf : FVec Ideal S1x128 .f32} {H : Fin 7 → Head} (T : Tables (c := c) (M2 := M2) (M7 := M7) f2 f7 L10 L12 L13 L14 vf H)

/-- A trip's powers of two, -/
def tripE (f10 : Bf (F := Ideal) c M10) (f12 : Bf (F := Ideal) c M12) (f13 : Bf (F := Ideal) c M13) (f14 : Bf (F := Ideal) c M14) (k : Fin k0_t1_loop.trips) : FVec Ideal S128x1024 .f32 :=
  k0_pay7 (F := Ideal) (blockOf k) (k0_pay4 (View.readAt (Elt Ideal) M2.view (Rect.unit (s := S1x7x1024x128) (k0_off2 k) S1x1x128x128.size (k0_off2_inb k)).toLoadRect f2))
      (k0_pay5 (View.readAt (Elt Ideal) M13.view (Rect.unit (s := S7x32x128) (k0_off3 k 0#32) S1x1x1.size (k0_off3_inb k 0)).toLoadRect f13))
      (k0_pay6 (View.readAt (Elt Ideal) M13.view (Rect.unit (s := S7x32x128) (k0_off3 k 1#32) S1x1x1.size (k0_off3_inb k 1)).toLoadRect f13))
      (View.readAt (Elt Ideal) M13.view (Rect.unit (s := S7x32x128) (k0_off3 k 2#32) S1x1x1.size (k0_off3_inb k 2)).toLoadRect f13)
      (View.readAt (Elt Ideal) M13.view (Rect.unit (s := S7x32x128) (k0_off3 k 3#32) S1x1x1.size (k0_off3_inb k 3)).toLoadRect f13)
      (View.readAt (Elt Ideal) M10.view (Rect.unit (s := S1024x128) ![0, 0] S1024x128.size inb_S1024x128_S1024x128_0_0).toLoadRect f10)
      (View.readAt (Elt Ideal) M12.view (Rect.unit (s := S1x1024) ![0, 0] S1x1024.size inb_S1x1024_S1x1024_0_0).toLoadRect f12)
      (View.readAt (Elt Ideal) M14.view (Rect.unit (s := S7x8x1024) (k0_off4 k) S1x1x1024.size (k0_off4_inb k)).toLoadRect f14)

/-- their rows' sums, -/
def tripS (f10 : Bf (F := Ideal) c M10) (f12 : Bf (F := Ideal) c M12) (f13 : Bf (F := Ideal) c M13) (f14 : Bf (F := Ideal) c M14) (k : Fin k0_t1_loop.trips) : FVec Ideal S128 .f32 :=
  k0_pay8 (F := Ideal) (blockOf k) (k0_pay4 (View.readAt (Elt Ideal) M2.view (Rect.unit (s := S1x7x1024x128) (k0_off2 k) S1x1x128x128.size (k0_off2_inb k)).toLoadRect f2))
      (k0_pay5 (View.readAt (Elt Ideal) M13.view (Rect.unit (s := S7x32x128) (k0_off3 k 0#32) S1x1x1.size (k0_off3_inb k 0)).toLoadRect f13))
      (k0_pay6 (View.readAt (Elt Ideal) M13.view (Rect.unit (s := S7x32x128) (k0_off3 k 1#32) S1x1x1.size (k0_off3_inb k 1)).toLoadRect f13))
      (View.readAt (Elt Ideal) M13.view (Rect.unit (s := S7x32x128) (k0_off3 k 2#32) S1x1x1.size (k0_off3_inb k 2)).toLoadRect f13)
      (View.readAt (Elt Ideal) M13.view (Rect.unit (s := S7x32x128) (k0_off3 k 3#32) S1x1x1.size (k0_off3_inb k 3)).toLoadRect f13)
      (View.readAt (Elt Ideal) M10.view (Rect.unit (s := S1024x128) ![0, 0] S1024x128.size inb_S1024x128_S1024x128_0_0).toLoadRect f10)
      (View.readAt (Elt Ideal) M12.view (Rect.unit (s := S1x1024) ![0, 0] S1x1024.size inb_S1x1024_S1x1024_0_0).toLoadRect f12)
      (View.readAt (Elt Ideal) M14.view (Rect.unit (s := S7x8x1024) (k0_off4 k) S1x1x1024.size (k0_off4_inb k)).toLoadRect f14)

/-- and its store. -/
theorem trip_form (f10 : Bf (F := Ideal) c M10) (f12 : Bf (F := Ideal) c M12) (f13 : Bf (F := Ideal) c M13) (f14 : Bf (F := Ideal) c M14) (k : Fin k0_t1_loop.trips) :
    tripL_k0_t1 (F := Ideal) Variants.none c none i M2 h2 M3 h3 M4 h4 M5 h5 M6 h6 M7 h7 M8 h8 M9 h9 M10 h10 M11 h11 M12 h12 M13 h13 M14 h14 M15 h15 M16 h16 M17 h17 vf f2 f7 f10 f12 f13 f14 k = [⟨Rect.unit (s := S1x1024x896) (k0_off5 k) S1x128x128.size (k0_off5_inb k),
      k0_pay3 vf (tripE M2 M10 M12 M13 M14 (f2 := f2) f10 f12 f13 f14 k) (tripS M2 M10 M12 M13 M14 (f2 := f2) f10 f12 f13 f14 k)
        (View.readAt (Elt Ideal) M7.view (Rect.unit (s := S1x1x1024x128) ![0, 0, 0, 0] S1x1x1024x128.size inb_S1x1x1024x128_S1x1x1024x128_0_0_0_0).toLoadRect f7)⟩] := by
  unfold tripL_k0_t1 trip_k0_t1
  rfl

include T in
/-- A trip's store leaves a result as it should be. -/
theorem trip_keeps (k : Fin k0_t1_loop.trips) (L : List (View.Piece (Elt Ideal) S1x1024x896 .bf16)) (y : S1x1024x896.Idx) (hL : View.canon L y = flat H (y 1) (y 2)) :
    View.canon (tripL_k0_t1 (F := Ideal) Variants.none c none i M2 h2 M3 h3 M4 h4 M5 h5 M6 h6 M7 h7 M8 h8 M9 h9 M10 h10 M11 h11 M12 h12 M13 h13 M14 h14 M15 h15 M16 h16 M17 h17 vf f2 f7 (M10.view.writes (Elt Ideal) M10.view.junk L10) (M12.view.writes (Elt Ideal) M12.view.junk L12) (M13.view.writes (Elt Ideal) M13.view.junk L13) (M14.view.writes (Elt Ideal) M14.view.junk L14) k ++ L) y = flat H (y 1) (y 2) := by
  have hk : k.val < 56 := Nat.lt_of_lt_of_le k.isLt k0_t1_abs.2.1
  have hm : k.val / 7 < 8 := by omega
  have hr : k.val % 7 < 7 := by omega
  have hc (t : Fin 4) : View.readAt (Elt Ideal) M13.view (Rect.unit (s := S7x32x128) (k0_off3 k (BitVec.ofNat 32 t.val)) S1x1x1.size (k0_off3_inb k t)).toLoadRect
      (M13.view.writes (Elt Ideal) M13.view.junk L13) (ix3 0 0 0) = ((H ⟨k.val % 7, hr⟩).qs (tk (4 * (k.val / 7) + t.val)) : EReal) := by
    rw [load3 M13.view L13 _ (off3_eq k t) _ 0 0 0 ⟨k.val % 7, hr⟩ (tk (4 * (k.val / 7) + t.val)) 0 (by simp) (by simp [tk]; omega) (by simp)]
    exact T.qs _ _ _ hr
  obtain ⟨e, he, heq⟩ := shifted_out (H := H ⟨k.val % 7, hr⟩) hm (blockOf k) (blockOf_eq k)
    (View.readAt (Elt Ideal) M2.view (Rect.unit (s := S1x7x1024x128) (k0_off2 k) S1x1x128x128.size (k0_off2_inb k)).toLoadRect f2)
    _ _ _ _
    (View.readAt (Elt Ideal) M10.view (Rect.unit (s := S1024x128) ![0, 0] S1024x128.size inb_S1024x128_S1024x128_0_0).toLoadRect (M10.view.writes (Elt Ideal) M10.view.junk L10))
    (View.readAt (Elt Ideal) M12.view (Rect.unit (s := S1x1024) ![0, 0] S1x1024.size inb_S1x1024_S1x1024_0_0).toLoadRect (M12.view.writes (Elt Ideal) M12.view.junk L12))
    (View.readAt (Elt Ideal) M14.view (Rect.unit (s := S7x8x1024) (k0_off4 k) S1x1x1024.size (k0_off4_inb k)).toLoadRect (M14.view.writes (Elt Ideal) M14.view.junk L14))
    (fun i d => by
      rw [← T.q, load4 M2.view f2 _ (off2_eq k) _ 0 0 i d 0 ⟨k.val % 7, hr⟩ (row (k.val / 7) i) d (by simp) (by simp) (by rw [row_val hm i.isLt]) (by simp)])
    (hc 0) (hc 1) (hc 2) (hc 3)
    (fun j d => by rw [load2, T.k ⟨k.val % 7, hr⟩])
    (fun j => by rw [load2, T.ks ⟨k.val % 7, hr⟩])
    (fun j => by
      rw [load3 M14.view L14 _ (off4_eq k) _ 0 0 j ⟨k.val % 7, hr⟩ (bk (k.val / 7)) j (by simp) (by simp [bk]; omega) (by simp)]
      exact T.b _ _ _ hr)
    vf (T.vs ⟨k.val % 7, hr⟩)
    (View.readAt (Elt Ideal) M7.view (Rect.unit (s := S1x1x1024x128) ![0, 0, 0, 0] S1x1x1024x128.size inb_S1x1x1024x128_S1x1x1024x128_0_0_0_0).toLoadRect f7)
    (fun j d => by rw [at4 M7.view f7 _ 0 0 j d 0 0 j d (by simp) (by simp) (by simp) (by simp), T.v ⟨k.val % 7, hr⟩])
  rw [trip_form, List.singleton_append]
  refine canon_step (fun y => flat H (y 1) (y 2)) _ _ L y (fun z => ?_) (fun _ => hL)
  exact (congrFun heq z).trans (store_at ⟨k.val % 7, hr⟩ hm _ (off5_eq k) _ e he z)

include T in
/-- So do any number of them. -/
theorem trips_keep (L : List (View.Piece (Elt Ideal) S1x1024x896 .bf16)) (y : S1x1024x896.Idx) (hL : View.canon L y = flat H (y 1) (y 2)) :
    ∀ n, n ≤ k0_t1_loop.trips → View.canon (pb_k0_t1 (F := Ideal) Variants.none c none i M2 h2 M3 h3 M4 h4 M5 h5 M6 h6 M7 h7 M8 h8 M9 h9 M10 h10 M11 h11 M12 h12 M13 h13 M14 h14 M15 h15 M16 h16 M17 h17 vf f2 f7 (M10.view.writes (Elt Ideal) M10.view.junk L10) (M12.view.writes (Elt Ideal) M12.view.junk L12) (M13.view.writes (Elt Ideal) M13.view.junk L13) (M14.view.writes (Elt Ideal) M14.view.junk L14) n ++ L) y = flat H (y 1) (y 2)
  | 0, _ => by rw [pb_k0_t1.eq_1]; exact hL
  | n + 1, hn => by
    have h := pb_k0_t1_succ (F := Ideal) Variants.none c none i M2 h2 M3 h3 M4 h4 M5 h5 M6 h6 M7 h7 M8 h8 M9 h9 M10 h10 M11 h11 M12 h12 M13 h13 M14 h14 M15 h15 M16 h16 M17 h17 vf f2 f7 (M10.view.writes (Elt Ideal) M10.view.junk L10) (M12.view.writes (Elt Ideal) M12.view.junk L12) (M13.view.writes (Elt Ideal) M13.view.junk L13) (M14.view.writes (Elt Ideal) M14.view.junk L14) ⟨n, hn⟩
    rw [h, List.append_assoc]
    exact trip_keeps i M2 h2 M3 h3 M4 h4 M5 h5 M6 h6 M7 h7 M8 h8 M9 h9 M10 h10 M11 h11 M12 h12 M13 h13 M14 h14 M15 h15 M16 h16 M17 h17 T ⟨n, hn⟩ _ y (trips_keep L y hL n (Nat.le_of_succ_le hn))

include T in
/-- The result's contents after the guarded loop, when the first pass's were right. -/
theorem guarded_value (b : BitVec 1) (L : List (View.Piece (Elt Ideal) S1x1024x896 .bf16)) (hL : IsOut H 56 L) (n : Fin 1024) (k : Fin 896) :
    M9.view.read (Elt Ideal) (guarded c i M2 h2 M3 h3 M4 h4 M5 h5 M6 h6 M7 h7 M8 h8 M9 h9 M10 h10 M11 h11 M12 h12 M13 h13 M14 h14 M15 h15 M16 h16 M17 h17 vf b f2 f7 (M10.view.writes (Elt Ideal) M10.view.junk L10) (M12.view.writes (Elt Ideal) M12.view.junk L12) (M13.view.writes (Elt Ideal) M13.view.junk L13) (M14.view.writes (Elt Ideal) M14.view.junk L14) (M9.view.writes (Elt Ideal) M9.view.junk L)) (ix3 0 n k) = flat H n k := by
  have h0 := hL n k (by omega)
  unfold guarded
  split
  · rw [← View.writes_append, View.read_writes_junk_eq_canon]
    exact trips_keep i M2 h2 M3 h3 M4 h4 M5 h5 M6 h6 M7 h7 M8 h8 M9 h9 M10 h10 M11 h11 M12 h12 M13 h13 M14 h14 M15 h15 M16 h16 M17 h17 T L (ix3 0 n k) h0 _ (le_refl _)
  · rw [View.read_writes_junk_eq_canon]
    exact h0
end

end Cert.Proof.KernelIdeal

end
-- ==== Proof.KerHost.lean ====
/- What the kernel's body finds in its operands' blocks at grid point `t`: each entry is one entry of an argument. The grid
   is the batch (`bOf`) by the key/value heads (`gOf`). -/
module

public import Idealize.ShloMosaic.Lib.Pipeline.ValueKit
public import Idealize.ShloMosaic.Lib.Pointwise
public import Idealize.ShloMosaic.Lib.StableHlo
public import proofs.«01_k».proof.Proof.Spec
public import proofs.«01_k».proof.Proof.Gen.KernelIdeal.Frame

@[expose] public section

set_option maxRecDepth 16384

noncomputable section

namespace Cert.Proof.KernelIdeal

open Cert.KernelIdeal Cert.KernelIdeal.Gen Idealize.ShloMosaic Idealize.ShloMosaic.TcCoe Idealize.SL.Sem

variable (m : (ℓ : Loc nD τ sig) → Buf (Elt Ideal) ℓ) (c : Dev nD)

/-- The batch entry of grid point `t`, -/
def bOf (t : Fin grid0.N) : Fin 2 := ⟨t.val / 4, by have := t.isLt; have : grid0.N = 8 := rfl; omega⟩
/-- its key/value head, -/
def gOf (t : Fin grid0.N) : Fin 4 := ⟨t.val % 4, by omega⟩
/-- and the query head that its `r`-th is. -/
def hOf (t : Fin grid0.N) (r : Fin 7) : Fin 28 := ⟨t.val % 4 * 7 + r.val, by omega⟩

theorem idx : ∀ t : Fin grid0.N, win0_0.index t = ![t.val / 4, t.val % 4, 0, 0] ∧ win0_1.index t = ![0, 0, 0]
    ∧ win0_2.index t = ![t.val / 4, t.val % 4, 0, 0] ∧ win0_3.index t = ![t.val / 4, t.val % 4, 0, 0]
    ∧ win0_4.index t = ![t.val / 4, t.val % 4, 0, 0] ∧ win0_5.index t = ![t.val / 4, t.val % 4, 0, 0]
    ∧ win0_6.index t = ![t.val, 0, 0] ∧ win0_7.index t = ![t.val / 4, 0, t.val % 4] := by decide +kernel

theorem coords_val : ∀ t : Fin grid0.N, (grid0.coords t 0).val = t.val / 4 ∧ (grid0.coords t 1).val = t.val % 4 := by decide +kernel

/-- Query codes. -/
theorem blk0 (t : Fin grid0.N) (r : Fin 7) (i : Fin 1024) (d : Fin 128) :
    iblk m c 0 t (ix4 0 r i d) = m ((c : Thread nD τ).loc main_arg0) (ix4 (bOf t) i (hOf t r) d) := by
  have hN : t.val < 8 := t.isLt
  have he : (win0_0.blk t).view.emb (ix4 0 r i d) = ix4 (bOf t) (hOf t r) i d := by
    blk_ext [idx t, bOf, gOf, hOf]
  unfold iblk
  entry_read
  blk_simp
  rw [he]
  pointwise

/-- Query scales: the whole array at every point. -/
theorem blk1 (t : Fin grid0.N) (h : Fin 28) (b : Fin 2) (u : Fin 32) :
    iblk m c 1 t (ix3 h b u) = m ((c : Thread nD τ).loc main_arg1) (ix3 b u h) := by
  have hN : t.val < 8 := t.isLt
  have he : (win0_1.blk t).view.emb (ix3 h b u) = ix3 h b u := by
    blk_ext [idx t, bOf, gOf, hOf]
  unfold iblk
  entry_read
  blk_simp
  rw [he]
  pointwise

/-- Query means. -/
theorem blk2 (t : Fin grid0.N) (r : Fin 7) (u : Fin 8) (d : Fin 128) :
    iblk m c 2 t (ix4 0 r u d) = m ((c : Thread nD τ).loc main_arg2) (ix4 (bOf t) u (hOf t r) d) := by
  have hN : t.val < 8 := t.isLt
  have he : (win0_2.blk t).view.emb (ix4 0 r u d) = ix4 (bOf t) (hOf t r) u d := by
    blk_ext [idx t, bOf, gOf, hOf]
  unfold iblk
  entry_read
  blk_simp
  rw [he]
  pointwise

/-- Key codes. -/
theorem blk3 (t : Fin grid0.N) (j : Fin 1024) (d : Fin 128) :
    iblk m c 3 t (ix4 0 0 j d) = m ((c : Thread nD τ).loc main_arg3) (ix4 (bOf t) j (gOf t) d) := by
  have hN : t.val < 8 := t.isLt
  have he : (win0_3.blk t).view.emb (ix4 0 0 j d) = ix4 (bOf t) (gOf t) j d := by
    blk_ext [idx t, bOf, gOf, hOf]
  unfold iblk
  entry_read
  blk_simp
  rw [he]
  pointwise

/-- Key scales. -/
theorem blk4 (t : Fin grid0.N) (u : Fin 32) :
    iblk m c 4 t (ix4 0 0 0 u) = m ((c : Thread nD τ).loc main_arg4) (ix3 (bOf t) u (gOf t)) := by
  have hN : t.val < 8 := t.isLt
  have he : (win0_4.blk t).view.emb (ix4 0 0 0 u) = ix4 (bOf t) (gOf t) 0 u := by
    blk_ext [idx t, bOf, gOf, hOf]
  unfold iblk
  entry_read
  blk_simp
  rw [he]
  pointwise

/-- Value codes. -/
theorem blk5 (t : Fin grid0.N) (j : Fin 1024) (d : Fin 128) :
    iblk m c 5 t (ix4 0 0 j d) = m ((c : Thread nD τ).loc main_arg5) (ix4 (bOf t) j (gOf t) d) := by
  have hN : t.val < 8 := t.isLt
  have he : (win0_5.blk t).view.emb (ix4 0 0 j d) = ix4 (bOf t) (gOf t) j d := by
    blk_ext [idx t, bOf, gOf, hOf]
  unfold iblk
  entry_read
  blk_simp
  rw [he]
  pointwise

/-- Value scales. -/
theorem blk6 (t : Fin grid0.N) (d : Fin 128) :
    iblk m c 6 t (ix3 0 0 d) = m ((c : Thread nD τ).loc main_arg6) (ix3 (bOf t) (gOf t) d) := by
  have hN : t.val < 8 := t.isLt
  have he : (win0_6.blk t).view.emb (ix3 0 0 d) = ix3 ⟨t.val, t.isLt⟩ 0 d := by
    blk_ext [idx t, bOf, gOf, hOf]
  unfold iblk
  entry_read
  blk_simp
  rw [he]
  pointwise
  rfl

end Cert.Proof.KernelIdeal

end
-- ==== Proof.Value.lean ====
/- The kernel's result array after its run: at every index, the head's result that the arguments give. -/
module

public import proofs.«01_k».proof.Proof.First
public import proofs.«01_k».proof.Proof.Second
public import proofs.«01_k».proof.Proof.KerHost
public import proofs.«01_k».proof.Proof.RunI
public import Idealize.ShloMosaic.Lib.Pipeline.ValueKit
public import Idealize.ShloMosaic.Lib.Pipeline.Covers

@[expose] public section

set_option maxRecDepth 16384

noncomputable section

namespace Cert.Proof.KernelIdeal

open Cert.KernelIdeal Cert.KernelIdeal.Gen Idealize.ShloMosaic Idealize.ShloMosaic.TcCoe Idealize.SL.Sem
open Cert.Proof.Spec Cert.Proof.Softmax

variable (m : (ℓ : Loc nD τ sig) → Buf (Elt Ideal) ℓ) (ρ : Dev nD → PrngReg)

/-- The query head `h` of batch entry `b`, out of the arguments as launched. -/
abbrev head (c : Dev nD) (b : Fin 2) (h : Fin 28) : Head :=
  headOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) b h

/-- The query scales, the query means and the key scales are finite. -/
structure Finite (c : Dev nD) : Prop where
  qs : ∀ i, m ((c : Thread nD τ).loc main_arg1) i = (((m ((c : Thread nD τ).loc main_arg1) i : EReal).toReal : ℝ) : EReal)
  qm : ∀ i, m ((c : Thread nD τ).loc main_arg2) i = (((m ((c : Thread nD τ).loc main_arg2) i : EReal).toReal : ℝ) : EReal)
  ks : ∀ i, m ((c : Thread nD τ).loc main_arg4) i = (((m ((c : Thread nD τ).loc main_arg4) i : EReal).toReal : ℝ) : EReal)

/-- What the body leaves in its result, as the first pass's stores with the guarded loop's over them. -/
theorem run_form (c : Dev nD) (i : grid0.Coords)
    (M2 : Memref sig .tc .vmem S1x7x1024x128 .i8) (h2 : M2.IsWhole) (M3 : Memref sig .tc .vmem S28x2x32 .f32) (h3 : M3.IsWhole) (M4 : Memref sig .tc .vmem S1x7x8x128 .bf16) (h4 : M4.IsWhole)
    (M5 : Memref sig .tc .vmem S1x1x1024x128 .i8) (h5 : M5.IsWhole) (M6 : Memref sig .tc .vmem S1x1x1x32 .f32) (h6 : M6.IsWhole) (M7 : Memref sig .tc .vmem S1x1x1024x128 .fp8e4m3) (h7 : M7.IsWhole)
    (M8 : Memref sig .tc .vmem S1x1x128 .f32) (h8 : M8.IsWhole) (M9 : Memref sig .tc .vmem S1x1024x896 .bf16) (h9 : M9.IsWhole) (M10 : Memref sig .tc .vmem S1024x128 .bf16) (h10 : M10.IsWhole)
    (M11 : Memref sig .tc .vmem S32x128 .f32) (h11 : M11.IsWhole) (M12 : Memref sig .tc .vmem S1x1024 .f32) (h12 : M12.IsWhole) (M13 : Memref sig .tc .vmem S7x32x128 .f32) (h13 : M13.IsWhole)
    (M14 : Memref sig .tc .vmem S7x8x1024 .f32) (h14 : M14.IsWhole) (M15 : Memref sig .tc .vmem S128x1024 .f32) (h15 : M15.IsWhole) (M16 : Memref sig .tc .vmem S128x1024 .f32) (h16 : M16.IsWhole)
    (M17 : Memref sig .tc .vmem S128x128 .f32) (h17 : M17.IsWhole)
    (f2 : Bf (F := Ideal) c M2) (f3 : Bf (F := Ideal) c M3) (f4 : Bf (F := Ideal) c M4) (f5 : Bf (F := Ideal) c M5) (f6 : Bf (F := Ideal) c M6) (f7 : Bf (F := Ideal) c M7) (f8 : Bf (F := Ideal) c M8) :
    ∃ b : BitVec 1, (kernelRun (F := Ideal) c i M2 h2 M3 h3 M4 h4 M5 h5 M6 h6 M7 h7 M8 h8 M9 h9 M10 h10 M11 h11 M12 h12 M13 h13 M14 h14 M15 h15 M16 h16 M17 h17 f2 f3 f4 f5 f6 f7 f8).1 = guarded c i M2 h2 M3 h3 M4 h4 M5 h5 M6 h6 M7 h7 M8 h8 M9 h9 M10 h10 M11 h11 M12 h12 M13 h13 M14 h14 M15 h15 M16 h16 M17 h17 (kernelRun.sl.v369 (F := Ideal) c M8 f8) b f2 f7
      (M10.view.writes (Elt Ideal) M10.view.junk (kernelRun.sl.H10_1 (F := Ideal) c M5 f5)) (M12.view.writes (Elt Ideal) M12.view.junk (kernelRun.sl.H12_8 (F := Ideal) c M6 M11 f6))
      (M13.view.writes (Elt Ideal) M13.view.junk (kernelRun.sl.H13_7 (F := Ideal) c i M3 f3)) (M14.view.writes (Elt Ideal) M14.view.junk (kernelRun.sl.H14_7 (F := Ideal) c M4 M5 M6 M10 M11 M12 f4 f5 f6))
      (M9.view.writes (Elt Ideal) M9.view.junk (kernelRun.sl.H9_56_1 (F := Ideal) c i M2 M3 M4 M5 M6 M7 M8 M10 M11 M12 M13 M14 M15 M16 f2 f3 f4 f5 f6 f7 f8)) := by
  refine ⟨kernelRun.sl.v13549 c i M2 M3 M4 M5 M6 M10 M11 M12 M13 M14 M17 f2 f3 f4 f5 f6, ?_⟩
  unfold kernelRun
  dsimp only []

theorem run_value (c : Dev nD) (i : grid0.Coords)
    (M2 : Memref sig .tc .vmem S1x7x1024x128 .i8) (h2 : M2.IsWhole) (M3 : Memref sig .tc .vmem S28x2x32 .f32) (h3 : M3.IsWhole) (M4 : Memref sig .tc .vmem S1x7x8x128 .bf16) (h4 : M4.IsWhole)
    (M5 : Memref sig .tc .vmem S1x1x1024x128 .i8) (h5 : M5.IsWhole) (M6 : Memref sig .tc .vmem S1x1x1x32 .f32) (h6 : M6.IsWhole) (M7 : Memref sig .tc .vmem S1x1x1024x128 .fp8e4m3) (h7 : M7.IsWhole)
    (M8 : Memref sig .tc .vmem S1x1x128 .f32) (h8 : M8.IsWhole) (M9 : Memref sig .tc .vmem S1x1024x896 .bf16) (h9 : M9.IsWhole) (M10 : Memref sig .tc .vmem S1024x128 .bf16) (h10 : M10.IsWhole)
    (M11 : Memref sig .tc .vmem S32x128 .f32) (h11 : M11.IsWhole) (M12 : Memref sig .tc .vmem S1x1024 .f32) (h12 : M12.IsWhole) (M13 : Memref sig .tc .vmem S7x32x128 .f32) (h13 : M13.IsWhole)
    (M14 : Memref sig .tc .vmem S7x8x1024 .f32) (h14 : M14.IsWhole) (M15 : Memref sig .tc .vmem S128x1024 .f32) (h15 : M15.IsWhole) (M16 : Memref sig .tc .vmem S128x1024 .f32) (h16 : M16.IsWhole)
    (M17 : Memref sig .tc .vmem S128x128 .f32) (h17 : M17.IsWhole)
    (f2 : Bf (F := Ideal) c M2) (f3 : Bf (F := Ideal) c M3) (f4 : Bf (F := Ideal) c M4) (f5 : Bf (F := Ideal) c M5) (f6 : Bf (F := Ideal) c M6) (f7 : Bf (F := Ideal) c M7) (f8 : Bf (F := Ideal) c M8)
    {H : Fin 7 → Head} (R : Reads i f2 f3 f4 f5 f6 f7 f8 H) (n : Fin 1024) (k : Fin 896) :
    M9.view.read (Elt Ideal) (kernelRun (F := Ideal) c i M2 h2 M3 h3 M4 h4 M5 h5 M6 h6 M7 h7 M8 h8 M9 h9 M10 h10 M11 h11 M12 h12 M13 h13 M14 h14 M15 h15 M16 h16 M17 h17 f2 f3 f4 f5 f6 f7 f8).1 (ix3 0 n k) = flat H n k := by
  obtain ⟨b, hb⟩ := run_form c i M2 h2 M3 h3 M4 h4 M5 h5 M6 h6 M7 h7 M8 h8 M9 h9 M10 h10 M11 h11 M12 h12 M13 h13 M14 h14 M15 h15 M16 h16 M17 h17 f2 f3 f4 f5 f6 f7 f8
  rw [hb]
  exact guarded_value i M2 h2 M3 h3 M4 h4 M5 h5 M6 h6 M7 h7 M8 h8 M9 h9 M10 h10 M11 h11 M12 h12 M13 h13 M14 h14 M15 h15 M16 h16 M17 h17 (tables M10 M11 M12 R) b _ (rows_8 M10 M11 M12 M13 M14 M15 M16 R) n k

/-- Where a load through a box of unit strides reads. -/
theorem idx3 {n o p a b c' r s t : ℕ} (off : Fin 3 → ℕ) (ho : off = ![r, s, t]) (inb : ∀ k, off k + (![a, b, c'] : Fin 3 → ℕ) k ≤ (⟨3, ![n, o, p]⟩ : Shape).size k)
    (i : Fin a) (j : Fin b) (k : Fin c') (i' : Fin n) (j' : Fin o) (k' : Fin p) (hi : r + i.val = i'.val) (hj : s + j.val = j'.val) (hk : t + k.val = k'.val) :
    (Rect.unit (s := ⟨3, ![n, o, p]⟩) off ![a, b, c'] inb).toLoadRect.idx (ix3 i j k) = ix3 i' j' k' := by
  subst ho
  funext x
  match x with
  | ⟨0, _⟩ => exact Fin.ext (by simpa using hi)
  | ⟨1, _⟩ => exact Fin.ext (by simpa using hj)
  | ⟨2, _⟩ => exact Fin.ext (by simpa using hk)

theorem group (t : Fin cfg0.N) (r : Fin 7) : (⟨(hOf t r).val / 7, by have := (hOf t r).isLt; omega⟩ : Fin 4) = gOf t := Fin.ext (by
  show (t.val % 4 * 7 + r.val) / 7 = t.val % 4
  omega)

/-- The blocks at point `t` hold the numbers of its seven heads. -/
theorem reads (c : Dev nD) (hf : Finite m c) (t : Fin cfg0.N) : Reads (M2 := st0_0 t) (M3 := st0_1 t) (M4 := st0_2 t) (M5 := st0_3 t) (M6 := st0_4 t) (M7 := st0_5 t) (M8 := st0_6 t)
    (c := c) (grid0.coords t) ((hst0_0 t).unread (iblk m c 0 t)) ((hst0_1 t).unread (iblk m c 1 t)) ((hst0_2 t).unread (iblk m c 2 t)) ((hst0_3 t).unread (iblk m c 3 t))
    ((hst0_4 t).unread (iblk m c 4 t)) ((hst0_5 t).unread (iblk m c 5 t)) ((hst0_6 t).unread (iblk m c 6 t)) (fun r => head m c (bOf t) (hOf t r)) where
  q r i d := by
    rw [(hst0_0 t).read_unread, blk0]; rfl
  qs r u := by
    rw [(hst0_1 t).read_unread]
    have hc := coords_val t
    have hi := idx3 _ (k0_off1_eq (grid0.coords t) r) (Gen.k0_off1_inb (grid0.coords t) r) 0 0 u (hOf t r) (bOf t) u (by simp only [hOf, hc.2]; simp; omega) (by simp [bOf, hc.1]) (by simp)
    rw [hi, blk1]
    exact hf.qs _
  qm r u d := by
    rw [(hst0_2 t).read_unread, blk2]; exact hf.qm _
  k r j d := by
    rw [(hst0_3 t).read_unread, blk3, ← group t r]; rfl
  ks r u := by
    rw [(hst0_4 t).read_unread, blk4, ← group t r]; exact hf.ks _
  v r j d := by
    rw [(hst0_5 t).read_unread, blk5, ← group t r]; rfl
  vs r d := by
    rw [(hst0_6 t).read_unread, blk6, ← group t r]; rfl

/-- What the body leaves in the result's block at point `t`. -/
theorem outBlk_value (c : Dev nD) (hf : Finite m c) (t : Fin cfg0.N) (i : Fin 1024) (k : Fin 896) :
    outBlk m c t (ix3 0 i k) = flat (fun r => head m c (bOf t) (hOf t r)) i k := by
  have R := reads m c hf t
  exact run_value c (grid0.coords t) _ _ _ _ _ _ _ _ _ _ _ _ _ _ _ _ _ _ _ _ _ _ _ _ _ _ _ _ _ _ _ _ _ _ _ _ _ _ _ R i k

/-- The eight points' blocks fill the result's array. -/
theorem covers : (cfg0.win (7 : Fin 8)).Covers := by
  refine (cfg0.win (7 : Fin 8)).covers_of_index_surj rfl (by decide) fun β => ?_
  have h0 : (β (0 : Fin 3)).val < 2 := (β (0 : Fin 3)).isLt
  have h1 : (β (1 : Fin 3)).val < 1 := (β (1 : Fin 3)).isLt
  have h2 : (β (2 : Fin 3)).val < 4 := (β (2 : Fin 3)).isLt
  have hN : (β (0 : Fin 3)).val * 4 + (β (2 : Fin 3)).val < grid0.N := by
    show _ < 8
    omega
  refine ⟨⟨(β (0 : Fin 3)).val * 4 + (β (2 : Fin 3)).val, hN⟩, fun a => ?_⟩
  have he := (idx ⟨(β (0 : Fin 3)).val * 4 + (β (2 : Fin 3)).val, hN⟩).2.2.2.2.2.2.2
  refine (congrFun he a).trans ?_
  match a with
  | ⟨0, _⟩ => show ((β (0 : Fin 3)).val * 4 + (β (2 : Fin 3)).val) / 4 = (β (0 : Fin 3)).val; omega
  | ⟨1, _⟩ => show 0 = (β (1 : Fin 3)).val; omega
  | ⟨2, _⟩ => show ((β (0 : Fin 3)).val * 4 + (β (2 : Fin 3)).val) % 4 = (β (2 : Fin 3)).val; omega

end Cert.Proof.KernelIdeal

end
-- ==== Proof.Result.lean ====
/- The kernel's result array after its run: at every index, the head's result that the arguments give. -/
module

public import proofs.«01_k».proof.Proof.Value

@[expose] public section

set_option maxRecDepth 16384

noncomputable section

namespace Cert.Proof.KernelIdeal

open Cert.KernelIdeal Cert.KernelIdeal.Gen Idealize.ShloMosaic Idealize.ShloMosaic.TcCoe Idealize.SL.Sem
open Cert.Proof.Spec Cert.Proof.Softmax

variable (m : (ℓ : Loc nD τ sig) → Buf (Elt Ideal) ℓ) (ρ : Dev nD → PrngReg)

/-- Where point `t`'s block lies in the result. -/
theorem place (t : Fin cfg0.N) (z1 : Fin 1024) (z2 : Fin 896) : (win0_7.blk t).view.emb (ix3 0 z1 z2) = ix3 (bOf t) z1 ⟨t.val % 4 * 896 + z2.val, by omega⟩ := by
  blk_ext [idx t, bOf]

/-- The result at every index: of its lane's head. -/
def result (c : Dev nD) (y : S2x1024x3584.Idx) : EReal :=
  (head m c (y 0) ⟨(y 2).val / 128, by have h : (y 2).val < 3584 := (y 2).isLt; omega⟩).out (y 1) ⟨(y 2).val % 128, Nat.mod_lt _ (by norm_num)⟩

theorem point (c : Dev nD) (hf : Finite m c) (t : Fin cfg0.N) (y : S1x1024x896.Idx) : outBlk m c t y = result m c ((win0_7.blk t).view.emb y) := by
  idx_vars y
  obtain rfl : y0 = 0 := Subsingleton.elim _ _
  rw [outBlk_value m c hf t y1 y2, place t y1 y2]
  show (head m c (bOf t) (hOf t ⟨y2.val / 128, _⟩)).out y1 ⟨y2.val % 128, _⟩
    = (head m c (bOf t) ⟨(t.val % 4 * 896 + y2.val) / 128, _⟩).out y1 ⟨(t.val % 4 * 896 + y2.val) % 128, _⟩
  congr 1
  · congr 1
    exact Fin.ext (by show t.val % 4 * 7 + y2.val / 128 = (t.val % 4 * 896 + y2.val) / 128; omega)
  · exact Fin.ext (by show y2.val % 128 = (t.val % 4 * 896 + y2.val) % 128; omega)

attribute [local irreducible] outBlk result in
/-- The result's array after the run. -/
theorem value (c : Dev nD) (hf : Finite m c) : (dats (F := Ideal) m 0 c).arrAt (7 : Fin 8) cfg0.N = result m c := by
  refine (dats (F := Ideal) m 0 c).arrAt_eq_of_covers (7 : Fin 8) _ covers fun t hf' y => ?_
  rw [after0_7]
  show outBlk m c t y = _
  exact point m c hf t y

end Cert.Proof.KernelIdeal

end
-- ==== Proof.RefBlock.lean ====
/- The reference's one block, read at an index: `Head.out` of the index's query head. -/
module

public import Idealize.ShloMosaic.Lib.Pointwise
public import proofs.«01_k».proof.Proof.Spec
public import proofs.«01_k».proof.Proof.Gen.ReferenceIdeal.Value

@[expose] public section

set_option maxRecDepth 16384

noncomputable section

namespace Cert.Proof.ReferenceIdeal

open Cert.ReferenceIdeal Cert.ReferenceIdeal.Gen Idealize.ShloMosaic Idealize.ShloMosaic.TcCoe Idealize.SL.Sem
open Cert.Proof.Spec Cert.Proof.Softmax

theorem named_scale : (Named.named κ "score_scale" 0x3DB504F3#32 : Ideal .f32) = (((Real.sqrt 128)⁻¹ : ℝ) : EReal) :=
  IdealRules.named_const.ideal_named_scalar _ _ _ _ rfl

/-- A code read as a real. -/
theorem sitofp_code (b : BitVec 8) : FloatOps.sitofp (F := Ideal) FTy.f32 b = (((b.toInt : ℝ)) : EReal) := rfl

section
variable (v0 v3 : Vec Ideal S56x1024x128 .i8) (v7 : Vec Ideal S56x1024x128 .bf16) (v11 : Vec Ideal S56x1x1024 .f32) (v15 : Vec Ideal S56x1024x1 .f32)
variable (H : Head) (h : Fin 56)

/-- The score the reference takes its exponential of: the head's natural score, up to the diagonal. -/
theorem score_value (hk : ∀ j d, (((v0 (ix3 h j d) : BitVec 8).toInt : ℝ)) = H.k j d) (hq : ∀ i d, (((v3 (ix3 h i d) : BitVec 8).toInt : ℝ)) = H.q i d)
    (hqm : ∀ i d, v7 (ix3 h i d) = (H.qm (blk i) d : EReal)) (hks : ∀ j, v11 (ix3 h 0 j) = (H.ks (tok j) : EReal))
    (hqs : ∀ i, v15 (ix3 h i 0) = (H.qs (tok i) : EReal)) (i j : Fin 1024) :
    Scalar.select (IntOp.cmpi CmpIPredicate.sle (BitVec.ofNat 32 ↑j) (BitVec.ofNat 32 ↑i))
        ((((Real.sqrt 128)⁻¹ : ℝ) : EReal) * v11 (ix3 h 0 j) *
          (v15 (ix3 h i 0) * ∑ x, FloatOps.sitofp (F := Ideal) FTy.f32 (v3 (ix3 h i x) : BitVec 8) * FloatOps.sitofp (F := Ideal) FTy.f32 (v0 (ix3 h j x) : BitVec 8) +
            ∑ x, (v7 (ix3 h i x) : EReal) * FloatOps.sitofp (F := Ideal) FTy.f32 (v0 (ix3 h j x) : BitVec 8))) ⊥
      = Softmax.score (H.score i) i.val (Real.log 2) j := by
  refine select_score (H.score i) i j (Real.log 2) _ ?_
  rw [Head.score, ← natural_score, hks, hqs]
  simp only [sitofp_code, hk, hq, hqm, ← EReal.coe_mul, sum_coe]

theorem pay2_value (hk : ∀ j d, (((v0 (ix3 h j d) : BitVec 8).toInt : ℝ)) = H.k j d) (hq : ∀ i d, (((v3 (ix3 h i d) : BitVec 8).toInt : ℝ)) = H.q i d)
    (hqm : ∀ i d, v7 (ix3 h i d) = (H.qm (blk i) d : EReal)) (hks : ∀ j, v11 (ix3 h 0 j) = (H.ks (tok j) : EReal))
    (hqs : ∀ i, v15 (ix3 h i 0) = (H.qs (tok i) : EReal)) (i j : Fin 1024) :
    clip (k0_pay2 v0 v3 v7 v11 v15 (ix3 h i j)) = prob (H.score i) i.val j := by
  have hs := score_value v0 v3 v7 v11 v15 H h hk hq hqm hks hqs i
  have he : k0_pay2 v0 v3 v7 v11 v15 (ix3 h i j) =
      Ideal.div (Ideal.exp (Softmax.score (H.score i) i.val (Real.log 2) j - Finset.univ.fold max ⊥ (Softmax.score (H.score i) i.val (Real.log 2))))
        (∑ x, Ideal.exp (Softmax.score (H.score i) i.val (Real.log 2) x - Finset.univ.fold max ⊥ (Softmax.score (H.score i) i.val (Real.log 2)))) * 256 := by
    pointwise [k0_pay2]
    rw [ofBits_bot, ofBits_256, named_scale]
    simp only [hs]
  rw [he]
  exact prob_exp (H.score i) i.val _ (le_fold_max _) (exists_fold_max _) j

end

theorem pay1_value (v37 : FVec Ideal S56x1024x1024 .f32) (v43 : Vec Ideal S56x1024x128 .fp8e4m3) (v48 : Vec Ideal S56x1x128 .f32)
    (H : Head) (b : Fin 2) (i : Fin 1024) (c : Fin 3584) (h : Fin 56) (hh : b.val * 28 + c.val / 128 = h.val)
    (hp : ∀ j, clip (v37 (ix3 h i j)) = prob (H.score i) i.val j) (hv : ∀ j d, v43 (ix3 h j d) = H.v j d) (hvs : ∀ d, v48 (ix3 h 0 d) = H.vs d) :
    k0_pay1 v37 v43 v48 (ix3 b i c) = H.out i ⟨c.val % 128, Nat.mod_lt _ (by norm_num)⟩ := by
  obtain ⟨h, hlt⟩ := h
  obtain rfl : b.val * 28 + c.val / 128 = h := hh
  pointwise [k0_pay1]
  rw [ofBits_448, ofBits_inv256]
  unfold Head.out
  rw [← hvs, mul_assoc, mul_comm (((1 / 256 : ℝ) : EReal))]
  congr 1
  refine Finset.sum_congr rfl fun j _ => ?_
  rw [← hp, ← hv, clip, min_comm, max_comm]

end Cert.Proof.ReferenceIdeal

end
-- ==== Proof.RefHost.lean ====
/- What the reference's one block finds in its operands: each entry is one entry of an argument. -/
module

public import Idealize.ShloMosaic.Lib.Pointwise
public import Idealize.ShloMosaic.Lib.StableHlo
public import proofs.«01_k».proof.Proof.Spec
public import proofs.«01_k».proof.Proof.Gen.ReferenceIdeal.Value

@[expose] public section

set_option maxRecDepth 16384

noncomputable section

namespace Cert.Proof.ReferenceIdeal

open Cert.ReferenceIdeal Cert.ReferenceIdeal.Gen Idealize.ShloMosaic Idealize.ShloMosaic.TcCoe Idealize.SL.Sem

variable (m : (ℓ : Loc nD τ sig) → Buf (Elt Ideal) ℓ) (c : Dev nD)

/-- Query codes. -/
theorem V1 (b : Fin 56) (i : Fin 1024) (d : Fin 128) :
    V m c main_v1 (ix3 b i d) = m ((c : Thread nD τ).loc main_arg0) (ix4 ⟨b.val / 28, by omega⟩ i ⟨b.val % 28, by omega⟩ d) := by
  unfold_abbrev_sides
  after_results
  pointwise

/-- Query scales, each for 32 tokens. -/
theorem V5 (b : Fin 56) (i : Fin 1024) :
    V m c main_v5 (ix3 b i 0) = m ((c : Thread nD τ).loc main_arg1) (ix3 ⟨b.val / 28, by omega⟩ (Spec.tok i) ⟨b.val % 28, by omega⟩) := by
  unfold_abbrev_sides
  after_results
  pointwise [Spec.tok]

/-- Query means, each for 128 tokens. -/
theorem V9 (b : Fin 56) (i : Fin 1024) (d : Fin 128) :
    V m c main_v9 (ix3 b i d) = m ((c : Thread nD τ).loc main_arg2) (ix4 ⟨b.val / 28, by omega⟩ (Spec.blk i) ⟨b.val % 28, by omega⟩ d) := by
  unfold_abbrev_sides
  after_results
  pointwise [Spec.blk]

/-- Key codes, each for seven query heads. -/
theorem V13 (b : Fin 56) (i : Fin 1024) (d : Fin 128) :
    V m c main_v13 (ix3 b i d) = m ((c : Thread nD τ).loc main_arg3) (ix4 ⟨b.val / 28, by omega⟩ i ⟨b.val % 28 / 7, by omega⟩ d) := by
  unfold_abbrev_sides
  after_results
  pointwise

/-- Key scales, each for 32 tokens and seven query heads. -/
theorem V19 (b : Fin 56) (i : Fin 1024) :
    V m c main_v19 (ix3 b 0 i) = m ((c : Thread nD τ).loc main_arg4) (ix3 ⟨b.val / 28, by omega⟩ (Spec.tok i) ⟨b.val % 28 / 7, by omega⟩) := by
  unfold_abbrev_sides
  after_results
  pointwise [Spec.tok]

/-- Value codes, each for seven query heads. -/
theorem V23 (b : Fin 56) (i : Fin 1024) (d : Fin 128) :
    V m c main_v23 (ix3 b i d) = m ((c : Thread nD τ).loc main_arg5) (ix4 ⟨b.val / 28, by omega⟩ i ⟨b.val % 28 / 7, by omega⟩ d) := by
  unfold_abbrev_sides
  after_results
  pointwise

/-- Value scales, each for seven query heads. -/
theorem V26 (b : Fin 56) (d : Fin 128) :
    V m c main_v26 (ix3 b 0 d) = m ((c : Thread nD τ).loc main_arg6) (ix3 ⟨b.val / 28, by omega⟩ ⟨b.val % 28 / 7, by omega⟩ d) := by
  unfold_abbrev_sides
  after_results
  pointwise

end Cert.Proof.ReferenceIdeal

end
-- ==== Proof.RefValue.lean ====
/- The reference's run: its result at every index is `Head.out` of the index's query head, where the scales and means that
   the scores are made of are finite. -/
module

public import proofs.«01_k».proof.Proof.RefBlock
public import proofs.«01_k».proof.Proof.RefHost

@[expose] public section

set_option maxRecDepth 16384

noncomputable section

namespace Cert.Proof.ReferenceIdeal

open Cert.ReferenceIdeal Cert.ReferenceIdeal.Gen Idealize.ShloMosaic Idealize.ShloMosaic.TcCoe Idealize.SL.Sem
open Cert.Proof.Spec Cert.Proof.Softmax

section
variable {F : FTy → Type} [FloatOps F] [Named F]
variable (m : (ℓ : Loc nD τ sig) → Buf (Elt F) ℓ) (ρ : Dev nD → PrngReg)

/-- The one grid point. -/
def t₀ : Fin cfg0.N := ⟨0, by decide⟩

/-- The result array after the run, read through its one block, is what the one point's write-back wrote. -/
theorem final_out (c : Dev nD) :
    ((cfg0.win (7 : Fin 8)).blk t₀).view.read (Elt F) ((dats (F := F) m 0 c).arrAt (7 : Fin 8) cfg0.N)
      = (dats (F := F) m 0 c).flushed (7 : Fin 8) t₀ := by
  rw [show cfg0.N = (t₀ : Fin cfg0.N).val + 1 from rfl, (dats (F := F) m 0 c).arrAt_succ (7 : Fin 8) t₀]
  rw [show (cfg0.win (7 : Fin 8)).flush t₀ = true from by decide, if_pos rfl]
  exact View.read_write_univ _ _

theorem zero3 : (![0, 0, 0] : Fin 3 → Nat) = fun _ => 0 := funext fun a => by fin_cases a <;> rfl

/-- The whole-buffer loads read the buffers and the one covering store leaves its payload. -/
theorem out_eq (x0 : Vec F S56x1024x128 .i8) (x1 : Vec F S56x1024x1 .f32) (x2 : Vec F S56x1024x128 .bf16) (x3 : Vec F S56x1024x128 .i8)
    (x4 : Vec F S56x1x1024 .f32) (x5 : Vec F S56x1024x128 .fp8e4m3) (x6 : Vec F S56x1x128 .f32) :
    out0_7 (F := F) x0 x1 x2 x3 x4 x5 x6 = k0_pay1 (k0_pay2 x3 x0 x2 x4 x1) x5 x6 := by
  unfold out0_7
  rw [View.canon_unit_zero zero3, View.ld_unit_zero zero3, View.ld_unit_zero zero3, View.ld_unit_zero zero3, View.ld_unit_zero zero3,
    View.ld_unit_zero zero3, View.ld_unit_zero zero3, View.ld_unit_zero zero3]

/-- The result array after the run holds the payload of the host's arrays. -/
theorem final_value (c : Dev nD) :
    (dats (F := F) m 0 c).arrAt (7 : Fin 8) cfg0.N
      = k0_pay1 (k0_pay2 (V m c main_v13) (V m c main_v1) (V m c main_v9) (V m c main_v19) (V m c main_v5)) (V m c main_v23) (V m c main_v26) := by
  have ho := final_out (F := F) m c
  have hz0 : (fun a => (win0_0.index t₀) a * main_v1.ty.shape.size a) = fun _ => 0 :=
    funext fun a => by fin_cases a <;> decide
  have hr0 := fun f => Memref.read_access_unit_zero (Elt F) main_v1 hz0 (fun a => by fin_cases a <;> decide) f
  have hz1 : (fun a => (win0_1.index t₀) a * main_v5.ty.shape.size a) = fun _ => 0 :=
    funext fun a => by fin_cases a <;> decide
  have hr1 := fun f => Memref.read_access_unit_zero (Elt F) main_v5 hz1 (fun a => by fin_cases a <;> decide) f
  have hz2 : (fun a => (win0_2.index t₀) a * main_v9.ty.shape.size a) = fun _ => 0 :=
    funext fun a => by fin_cases a <;> decide
  have hr2 := fun f => Memref.read_access_unit_zero (Elt F) main_v9 hz2 (fun a => by fin_cases a <;> decide) f
  have hz3 : (fun a => (win0_3.index t₀) a * main_v13.ty.shape.size a) = fun _ => 0 :=
    funext fun a => by fin_cases a <;> decide
  have hr3 := fun f => Memref.read_access_unit_zero (Elt F) main_v13 hz3 (fun a => by fin_cases a <;> decide) f
  have hz4 : (fun a => (win0_4.index t₀) a * main_v19.ty.shape.size a) = fun _ => 0 :=
    funext fun a => by fin_cases a <;> decide
  have hr4 := fun f => Memref.read_access_unit_zero (Elt F) main_v19 hz4 (fun a => by fin_cases a <;> decide) f
  have hz5 : (fun a => (win0_5.index t₀) a * main_v23.ty.shape.size a) = fun _ => 0 :=
    funext fun a => by fin_cases a <;> decide
  have hr5 := fun f => Memref.read_access_unit_zero (Elt F) main_v23 hz5 (fun a => by fin_cases a <;> decide) f
  have hz6 : (fun a => (win0_6.index t₀) a * main_v26.ty.shape.size a) = fun _ => 0 :=
    funext fun a => by fin_cases a <;> decide
  have hr6 := fun f => Memref.read_access_unit_zero (Elt F) main_v26 hz6 (fun a => by fin_cases a <;> decide) f
  have hz7 : (fun a => (win0_7.index t₀) a * main_v27.ty.shape.size a) = fun _ => 0 :=
    funext fun a => by fin_cases a <;> decide
  have hr7 := fun f => Memref.read_access_unit_zero (Elt F) main_v27 hz7 (fun a => by fin_cases a <;> decide) f
  rw [hr7] at ho
  rw [ho]
  show (cfg0.win (7 : Fin 8)).cut _ ((dats (F := F) m 0 c).after 7 t₀) = _
  rw [after0_7, out_eq]
  unfold iblk
  rw [hr0, hr1, hr2, hr3, hr4, hr5, hr6]
  rfl

end

section
variable (m : (ℓ : Loc nD τ sig) → Buf (Elt Ideal) ℓ) (ρ : Dev nD → PrngReg)

/-- The query head `h` of batch entry `b`, out of the arguments as launched. -/
abbrev head (c : Dev nD) (b : Fin 2) (h : Fin 28) : Head :=
  headOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) b h

/-- The query scales, the query means and the key scales are finite. -/
structure Finite (c : Dev nD) : Prop where
  qs : ∀ i, m ((c : Thread nD τ).loc main_arg1) i = (((m ((c : Thread nD τ).loc main_arg1) i : EReal).toReal : ℝ) : EReal)
  qm : ∀ i, m ((c : Thread nD τ).loc main_arg2) i = (((m ((c : Thread nD τ).loc main_arg2) i : EReal).toReal : ℝ) : EReal)
  ks : ∀ i, m ((c : Thread nD τ).loc main_arg4) i = (((m ((c : Thread nD τ).loc main_arg4) i : EReal).toReal : ℝ) : EReal)

/-- The result at every index. -/
theorem value (c : Dev nD) (hf : Finite m c) (b : Fin 2) (i : Fin 1024) (k : Fin 3584) :
    (dats (F := Ideal) m 0 c).arrAt (7 : Fin 8) cfg0.N (ix3 b i k)
      = (head m c b ⟨k.val / 128, by omega⟩).out i ⟨k.val % 128, Nat.mod_lt _ (by norm_num)⟩ := by
  rw [final_value]
  have hb : (b.val * 28 + k.val / 128) / 28 = b.val := by omega
  have hh : (b.val * 28 + k.val / 128) % 28 = k.val / 128 := by omega
  refine pay1_value _ _ _ _ b i k ⟨b.val * 28 + k.val / 128, by omega⟩ rfl
    (fun j => pay2_value _ _ _ _ _ _ _ (fun j d => ?_) (fun i d => ?_) (fun i d => ?_) (fun j => ?_) (fun i => ?_) i j)
    (fun j d => ?_) (fun d => ?_)
  · rw [V13]; simp only [hb, hh]; rfl
  · rw [V1]; simp only [hb, hh]; rfl
  · rw [V9]; simp only [hb, hh]; exact hf.qm _
  · rw [V19]; simp only [hb, hh]; exact hf.ks _
  · rw [V5]; simp only [hb, hh]; exact hf.qs _
  · rw [V23]; simp only [hb, hh]; rfl
  · rw [V26]; simp only [hb, hh]; rfl

end

end Cert.Proof.ReferenceIdeal

end
-- ==== Proof.Finite.lean ====
/- The precondition, entry by entry: where it holds, every query scale, query mean and key scale is a real. -/
module

public import Idealize.ShloMosaic.Lib.Pointwise
public import proofs.«01_k».proof.Proof.Spec
public import proofs.«01_k».proof.Pre_finite_scales

@[expose] public section

set_option maxRecDepth 16384

noncomputable section

namespace Cert.Proof.Finite

open Cert.Pre_finite_scales Idealize.ShloMosaic

/-- The side conditions that the predicate's text states. -/
theorem facts : Facts where
  bcast_S_S2x32x28 := by decide
  bcast_S_S2x8x28x128 := by decide
  bcast_S_S2x32x4 := by decide

/-- A number whose magnitude is below infinity is a real. -/
theorem real_of_lt (x : EReal) (h : Ideal.cmp .olt (max x (-x)) ⊤ = 1#1) : x = ((x.toReal : ℝ) : EReal) := by
  have hlt : max x (-x) < ⊤ := by
    by_contra hn
    simp [Ideal.cmp, hn] at h
  obtain ⟨h1, h2⟩ := max_lt_iff.mp hlt
  refine (EReal.coe_toReal h1.ne ?_).symm
  rintro rfl
  simp at h2

variable [Facts] (a0 : IVec S2x1024x28x128 8) (a1 : FVec Ideal S2x32x28 .f32) (a2 : FVec Ideal S2x8x28x128 .bf16) (a3 : IVec S2x1024x4x128 8)
  (a4 : FVec Ideal S2x32x4 .f32) (a5 : FVec Ideal S2x1024x4x128 .fp8e4m3) (a6 : FVec Ideal S2x4x128 .f32)

theorem qs_real (h : (fn (F := Ideal) a0 a1 a2 a3 a4 a5 a6).1 = fun _ => 1#1) (i : S2x32x28.Idx) : a1 i = (((a1 i : EReal).toReal : ℝ) : EReal) :=
  real_of_lt _ (by
    have hi := congrFun h i
    rw [← Spec.ofBits_top]
    exact hi)

theorem qm_real (h : (fn (F := Ideal) a0 a1 a2 a3 a4 a5 a6).2.1 = fun _ => 1#1) (i : S2x8x28x128.Idx) : a2 i = (((a2 i : EReal).toReal : ℝ) : EReal) :=
  real_of_lt _ (by
    have hi := congrFun h i
    rw [← Spec.ofBits_top_bf16]
    exact hi)

theorem ks_real (h : (fn (F := Ideal) a0 a1 a2 a3 a4 a5 a6).2.2 = fun _ => 1#1) (i : S2x32x4.Idx) : a4 i = (((a4 i : EReal).toReal : ℝ) : EReal) :=
  real_of_lt _ (by
    have hi := congrFun h i
    rw [← Spec.ofBits_top]
    exact hi)

end Cert.Proof.Finite

end
-- ==== Proof.Agree.lean ====
/- The two value runs, and their results' agreement where the arguments agree and the scales are finite. -/
module

public import proofs.«01_k».proof.Defs
public import proofs.«01_k».proof.Proof.Result
public import proofs.«01_k».proof.Proof.RefValue
public import proofs.«01_k».proof.Proof.Finite
public import proofs.«01_k».proof.Proof.Gen.ReferenceIdeal.Value
public import Idealize.ShloMosaic.Adequacy
public import Idealize.ShloMosaic.Init

@[expose] public section

set_option maxRecDepth 16384

noncomputable section

namespace Cert.Proof

open Idealize.ShloMosaic Idealize.ShloMosaic.TcCoe

/-- The kernel's run: its result at `KernelIdeal.result`, its arguments unchanged. -/
theorem kernel_run (m : (ℓ : Loc Cert.KernelIdeal.nD Cert.KernelIdeal.τ Cert.KernelIdeal.sig) → Buf (Elt Ideal) ℓ) (ρ : Dev Cert.KernelIdeal.nD → PrngReg)
    (hf : ∀ c, KernelIdeal.Finite m c) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v8) = KernelIdeal.result m c) :=
  (θ_run _ _ _).mono (fun r h c => ((h c).1 7).trans (KernelIdeal.value m c (hf c))) (KernelIdeal.run_main m ρ)

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
  (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
  (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))

include h1 h2 h4 in
theorem finite_ref (hf : KernelIdeal.Finite m c) : ReferenceIdeal.Finite m' c where
  qs := by rw [h1]; exact hf.qs
  qm := by rw [h2]; exact hf.qm
  ks := by rw [h4]; exact hf.ks

include h0 h1 h2 h3 h4 h5 h6 in
/-- The reference's result is the kernel's. -/
theorem agree (hf : KernelIdeal.Finite m c) : (Cert.ReferenceIdeal.Gen.dats (F := Ideal) m' 0 c).arrAt (7 : Fin 8) Cert.ReferenceIdeal.cfg0.N = KernelIdeal.result m c := by
  funext (y : Cert.KernelIdeal.S2x1024x3584.Idx)
  idx_vars y
  refine (ReferenceIdeal.value m' c (finite_ref m m' c h1 h2 h4 hf) y0 y1 y2).trans ?_
  unfold ReferenceIdeal.head
  rw [h0, h1, h2, h3, h4, h5, h6]
  rfl
end

/-- Where the precondition holds the scales are finite. -/
theorem finite_of_pre [Cert.Pre_finite_scales.Facts] (m : (ℓ : Loc Cert.KernelIdeal.nD Cert.KernelIdeal.τ Cert.KernelIdeal.sig) → Buf (Elt Ideal) ℓ)
    (h : Pre_KernelIdeal_finite_scales m) (c : Dev Cert.KernelIdeal.nD) : KernelIdeal.Finite m c where
  qs := Finite.qs_real _ _ _ _ _ _ _ (h c).1
  qm := Finite.qm_real _ _ _ _ _ _ _ (h c).2.1
  ks := Finite.ks_real _ _ _ _ _ _ _ (h c).2.2

end Cert.Proof

end
-- ==== Proof.lean ====
/- The claims of `Cert.Claim`, put together from the two kernel runs, the reference's run, the rewrite's rule and the two results'
   agreement. -/
module

public import proofs.«01_k».proof.Defs
public import proofs.«01_k».proof.Proof.RunK
public import proofs.«01_k».proof.Proof.RunI
public import proofs.«01_k».proof.Proof.Agree
public import proofs.«01_k».proof.Proof.Gen.ReferenceIdeal.Value
public import Idealize.ShloMosaic.Adequacy
public import Idealize.ShloMosaic.Init

@[expose] public section

noncomputable section

namespace Cert.Proof

open Idealize.ShloMosaic

theorem preserves : preserves_Kernel_KernelIdeal := IdealRules.named_const.statement _ _ _ _ _ rfl

theorem algebraic : algebraic_KernelIdeal_ReferenceIdeal_pre_finite_scales (hKernelIdeal := Cert.KernelIdeal.Gen.facts)
    (hReferenceIdeal := Cert.ReferenceIdeal.Gen.facts) (hPre_finite_scales := Finite.facts) := fun m g m' g' hp hag =>
  have hf := fun c => @finite_of_pre Finite.facts m hp c
  ⟨fun c => KernelIdeal.result m c,
    (θ_run _ _ _).mono (fun r h c => ⟨h.1 c, h.2.1 c⟩) (θ_run_and (kernel_run m g hf) (KernelIdeal.frame_claim m g)),
    (θ_run _ _ _).mono (fun r h c => by
      obtain ⟨h0, h1, h2, h3, h4, h5, h6⟩ := hag c
      exact ⟨(h c).1.trans (agree m m' c h0 h1 h2 h3 h4 h5 h6 (hf c)), (h c).2⟩) (Cert.ReferenceIdeal.Value.run_blocks m' g')⟩

theorem claim : Cert.Claim := by
  refine ⟨Cert.Kernel.Gen.facts, Cert.KernelIdeal.Gen.facts, Cert.ReferenceIdeal.Gen.facts, Finite.facts, ?_, ?_, ?_, ?_, ?_, preserves, algebraic⟩
  · exact fun m g _ => Kernel.frame_claim m g
  · exact fun m g _ => KernelIdeal.frame_claim m g
  · exact fun m g _ => KernelIdeal.frame_claim m g
  · exact fun m g _ => Cert.ReferenceIdeal.Gen.frame m g
  · exact fun m g _ => Cert.ReferenceIdeal.Gen.frame m g

end Cert.Proof

end
